-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_nonneg [hPre_scales_nonneg : Cert.Pre_scales_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_scales_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_nonneg [hPre_scales_nonneg : Cert.Pre_scales_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scales_nonneg [hKernelIdeal : Cert.KernelIdeal.Facts] [hPre_scales_nonneg : Cert.Pre_scales_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scales_nonneg [hReferenceIdeal : Cert.ReferenceIdeal.Facts] [hPre_scales_nonneg : Cert.Pre_scales_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_scales_nonneg [hKernelIdeal : Cert.KernelIdeal.Facts] [hReferenceIdeal : Cert.ReferenceIdeal.Facts] [hPre_scales_nonneg : Cert.Pre_scales_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scales_nonneg : Cert.Pre_scales_nonneg.Facts),
    quiescent_Kernel (hKernel := hKernel)
    ∧ quiescent_KernelIdeal (hKernelIdeal := hKernelIdeal)
    ∧ quiescent_KernelIdeal_pre_scales_nonneg (hKernelIdeal := hKernelIdeal) (hPre_scales_nonneg := hPre_scales_nonneg)
    ∧ quiescent_ReferenceIdeal (hReferenceIdeal := hReferenceIdeal)
    ∧ quiescent_ReferenceIdeal_pre_scales_nonneg (hReferenceIdeal := hReferenceIdeal) (hPre_scales_nonneg := hPre_scales_nonneg)
    ∧ preserves_Kernel_KernelIdeal
    ∧ algebraic_KernelIdeal_ReferenceIdeal_pre_scales_nonneg (hKernelIdeal := hKernelIdeal) (hReferenceIdeal := hReferenceIdeal) (hPre_scales_nonneg := hPre_scales_nonneg)
-- ==== Pre_scales_nonneg.lean ====
abbrev S6x16384x512 : Shape := ⟨3, ![6, 16384, 512]⟩
abbrev S6x16384 : Shape := ⟨2, ![6, 16384]⟩
abbrev S6 : Shape := ⟨1, ![6]⟩
abbrev S_ : Shape := ⟨0, ![]⟩

class Facts : Prop where
  bcast_S_S6x16384 : S_.BroadcastsInDim S6x16384 (![] : Fin 0 → Fin S6x16384.rank)
  reducesTo_S6x16384_S_d0_1 : S6x16384.ReducesTo [0, 1] S_
  h_S_ : 0 < S_.numel

variable [Facts]

def fn {F : FTy → Type} [FloatOps F] (main_arg0 : FVec F S6x16384x512 .fp8e4m3) (main_arg1 : FVec F S6x16384 .f32) (main_arg2 : IVec S6 32) : IVec S_ 1 :=
  let main_cst : FVec F S_ .f32 := constant S_ .f32 0x00000000#32
  let main_v0 : FVec F S6x16384 .f32 := broadcastInDim S6x16384 ![] bcast_S_S6x16384 main_cst
  let main_v1 : IVec S6x16384 1 := cmpf .oge main_arg1 main_v0
  let main_c : IVec S_ 1 := constantI S_ 1 1#1
  let main_v2 : IVec S_ 1 := (fun x v => Host.reduce IntOp.andi x v reducesTo_S6x16384_S_d0_1 h_S_) main_v1 main_c
  main_v2
-- ==== Kernel.lean ====
abbrev S6x16384x512 : Shape := ⟨3, ![6, 16384, 512]⟩
abbrev S6x16384 : Shape := ⟨2, ![6, 16384]⟩
abbrev S6 : Shape := ⟨1, ![6]⟩
abbrev S6x128x128 : Shape := ⟨3, ![6, 128, 128]⟩
abbrev S192x4x128 : Shape := ⟨3, ![192, 4, 128]⟩
abbrev S1x16384x512 : Shape := ⟨3, ![1, 16384, 512]⟩
abbrev S1x128x128 : Shape := ⟨3, ![1, 128, 128]⟩
abbrev S1x4x128 : Shape := ⟨3, ![1, 4, 128]⟩
abbrev S16384x128 : Shape := ⟨2, ![16384, 128]⟩
abbrev S1 : Shape := ⟨1, ![1]⟩
abbrev S1x1x128 : Shape := ⟨3, ![1, 1, 128]⟩
abbrev S1x128 : Shape := ⟨2, ![1, 128]⟩
abbrev S128x128 : Shape := ⟨2, ![128, 128]⟩
abbrev S1x512x512 : Shape := ⟨3, ![1, 512, 512]⟩
abbrev S512x512 : Shape := ⟨2, ![512, 512]⟩
abbrev S512x128 : Shape := ⟨2, ![512, 128]⟩
abbrev S64x8x512 : Shape := ⟨3, ![64, 8, 512]⟩
abbrev S8x512 : Shape := ⟨2, ![8, 512]⟩
abbrev S512 : Shape := ⟨1, ![512]⟩
abbrev S1x512 : Shape := ⟨2, ![1, 512]⟩

abbrev nBuf : Space → Nat
  | .hbm => 5
  | .vmem => 7
  | .smem => 1
  | _ => 0

abbrev bufTy : (tb : Table) → Fin (tcTables nBuf tb) → BufTy
  | .hbm, ⟨0, _⟩ => ⟨S6x16384x512, .fp8e4m3⟩
  | .hbm, ⟨1, _⟩ => ⟨S6x16384, .f32⟩
  | .hbm, ⟨2, _⟩ => ⟨S6x128x128, .f32⟩
  | .hbm, ⟨3, _⟩ => ⟨S192x4x128, .f32⟩
  | .hbm, ⟨4, _⟩ => ⟨S6x16384, .f32⟩
  | .local _ .vmem, ⟨0, _⟩ => ⟨S1x16384x512, .fp8e4m3⟩
  | .local _ .vmem, ⟨1, _⟩ => ⟨S1x16384x512, .fp8e4m3⟩
  | .local _ .vmem, ⟨2, _⟩ => ⟨S1x128x128, .f32⟩
  | .local _ .vmem, ⟨3, _⟩ => ⟨S1x128x128, .f32⟩
  | .local _ .vmem, ⟨4, _⟩ => ⟨S1x4x128, .f32⟩
  | .local _ .vmem, ⟨5, _⟩ => ⟨S1x4x128, .f32⟩
  | .local _ .vmem, ⟨6, _⟩ => ⟨S16384x128, .f32⟩
  | .local _ .smem, ⟨0, _⟩ => ⟨S6, .i32⟩
  | _, _ => ⟨S6x16384x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 32], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (i : grid0.Coords) : BitVec 32 :=
  let arg1 : BitVec 32 := BitVec.ofNat 32 (i 1).val
  let c512_i32 : BitVec 32 := 512#32
  let v2 : BitVec 32 := Scalar.muli arg1 c512_i32
  v2
def k0_off2 (i : grid0.Coords) (c0_i32_1 : BitVec 32) : Fin 3 → Nat :=
  let c0 : Index := 0#32
  let arg1 : BitVec 32 := BitVec.ofNat 32 (i 1).val
  let c4_i32 : BitVec 32 := 4#32
  let v10 : BitVec 32 := Scalar.muli arg1 c4_i32
  let v11 : BitVec 32 := Scalar.addi v10 c0_i32_1
  let v12 : Index := Scalar.indexCast v11
  let c0_2 : Index := 0#32
  ![0, v12.toNat, 0]
def k0_off3 (i : grid0.Coords) (c0_i32_3 : BitVec 32) : Fin 2 → Nat :=
  let arg1 : BitVec 32 := BitVec.ofNat 32 (i 1).val
  let c512_i32 : BitVec 32 := 512#32
  let v2 : BitVec 32 := Scalar.muli arg1 c512_i32
  let v3 : BitVec 32 := v2
  let v18 : BitVec 32 := Scalar.addi v3 c0_i32_3
  let v19 : Index := Scalar.indexCast v18
  let c0_4 : Index := 0#32
  ![v19.toNat, 0]
def k0_off4 (i : grid0.Coords) : Fin 3 → Nat :=
  let c0_17 : Index := 0#32
  let arg1 : BitVec 32 := BitVec.ofNat 32 (i 1).val
  let c512_i32 : BitVec 32 := 512#32
  let v2 : BitVec 32 := Scalar.muli arg1 c512_i32
  let v3 : BitVec 32 := v2
  let v62 : Index := Scalar.indexCast v3
  let c0_18 : Index := 0#32
  ![0, v62.toNat, 0]
def k0_off5 (i : grid0.Coords) : Fin 2 → Nat :=
  let arg1 : BitVec 32 := BitVec.ofNat 32 (i 1).val
  let c512_i32 : BitVec 32 := 512#32
  let v2 : BitVec 32 := Scalar.muli arg1 c512_i32
  let v3 : BitVec 32 := v2
  let v69 : Index := Scalar.indexCast v3
  let c0_21 : Index := 0#32
  ![v69.toNat, 0]
@[reducible] def k0_t1_loop (i : grid0.Coords) : Scf.Loop 32 :=
  let c0_i32_24 : BitVec 32 := 0#32
  let arg1 : BitVec 32 := BitVec.ofNat 32 (i 1).val
  let v80 : BitVec 32 := Scalar.subi arg1 c0_i32_24
  let c1_i32_25 : BitVec 32 := 1#32
  let v82 : BitVec 32 := Scalar.divsi v80 c1_i32_25
  let v83 : BitVec 32 := Scalar.muli v82 c1_i32_25
  let v84 : BitVec 32 := Scalar.addi c0_i32_24 v83
  let c1_i32_26 : BitVec 32 := 1#32
  ⟨c0_i32_24, v84, c1_i32_26⟩
def k0_mult2 (i : grid0.Coords) (k0_t1 : Fin (k0_t1_loop i).trips) : BitVec 32 :=
  let c0_i32_24 : BitVec 32 := 0#32
  let c1_i32_26 : BitVec 32 := 1#32
  let arg7 : BitVec 32 := Scf.iv c0_i32_24 c1_i32_26 k0_t1
  let c512_i32_66 : BitVec 32 := 512#32
  let v173 : BitVec 32 := Scalar.muli arg7 c512_i32_66
  v173
def k0_off6 (i : grid0.Coords) (k0_t1 : Fin (k0_t1_loop i).trips) : Fin 3 → Nat :=
  let c0_67 : Index := 0#32
  let c0_i32_24 : BitVec 32 := 0#32
  let c1_i32_26 : BitVec 32 := 1#32
  let arg7 : BitVec 32 := Scf.iv c0_i32_24 c1_i32_26 k0_t1
  let c512_i32_66 : BitVec 32 := 512#32
  let v173 : BitVec 32 := Scalar.muli arg7 c512_i32_66
  let v174 : BitVec 32 := v173
  let v175 : Index := Scalar.indexCast v174
  let c0_68 : Index := 0#32
  ![0, v175.toNat, 0]
def k0_off7 (i : grid0.Coords) : Fin 3 → Nat :=
  let c0_69 : Index := 0#32
  let arg1 : BitVec 32 := BitVec.ofNat 32 (i 1).val
  let c512_i32 : BitVec 32 := 512#32
  let v2 : BitVec 32 := Scalar.muli arg1 c512_i32
  let v3 : BitVec 32 := v2
  let v178 : Index := Scalar.indexCast v3
  let c0_70 : Index := 0#32
  ![0, v178.toNat, 0]
def k0_off8 (i : grid0.Coords) (k0_t1 : Fin (k0_t1_loop i).trips) : Fin 2 → Nat :=
  let c0_i32_24 : BitVec 32 := 0#32
  let c1_i32_26 : BitVec 32 := 1#32
  let arg7 : BitVec 32 := Scf.iv c0_i32_24 c1_i32_26 k0_t1
  let c512_i32_66 : BitVec 32 := 512#32
  let v173 : BitVec 32 := Scalar.muli arg7 c512_i32_66
  let v174 : BitVec 32 := v173
  let v182 : Index := Scalar.indexCast v174
  let c0_72 : Index := 0#32
  ![v182.toNat, 0]
@[reducible] def k0_t2_loop (i : grid0.Coords) : Scf.Loop 32 :=
  let c0_i32_24 : BitVec 32 := 0#32
  let arg1 : BitVec 32 := BitVec.ofNat 32 (i 1).val
  let v80 : BitVec 32 := Scalar.subi arg1 c0_i32_24
  let c1_i32_25 : BitVec 32 := 1#32
  let v82 : BitVec 32 := Scalar.divsi v80 c1_i32_25
  let v83 : BitVec 32 := Scalar.muli v82 c1_i32_25
  let v84 : BitVec 32 := Scalar.addi c0_i32_24 v83
  let v81 : BitVec 32 := Scalar.addi c0_i32_24 v80
  let c1_i32_27 : BitVec 32 := 1#32
  ⟨v84, v81, c1_i32_27⟩
def k0_mult3 (i : grid0.Coords) (k0_t2 : Fin (k0_t2_loop i).trips) : BitVec 32 :=
  let c0_i32_24 : BitVec 32 := 0#32
  let arg1 : BitVec 32 := BitVec.ofNat 32 (i 1).val
  let v80 : BitVec 32 := Scalar.subi arg1 c0_i32_24
  let c1_i32_25 : BitVec 32 := 1#32
  let v82 : BitVec 32 := Scalar.divsi v80 c1_i32_25
  let v83 : BitVec 32 := Scalar.muli v82 c1_i32_25
  let v84 : BitVec 32 := Scalar.addi c0_i32_24 v83
  let c1_i32_27 : BitVec 32 := 1#32
  let arg7 : BitVec 32 := Scf.iv v84 c1_i32_27 k0_t2
  let c512_i32_66 : BitVec 32 := 512#32
  let v173 : BitVec 32 := Scalar.muli arg7 c512_i32_66
  v173
def k0_off9 (i : grid0.Coords) (k0_t2 : Fin (k0_t2_loop i).trips) : Fin 3 → Nat :=
  let c0_67 : Index := 0#32
  let c0_i32_24 : BitVec 32 := 0#32
  let arg1 : BitVec 32 := BitVec.ofNat 32 (i 1).val
  let v80 : BitVec 32 := Scalar.subi arg1 c0_i32_24
  let c1_i32_25 : BitVec 32 := 1#32
  let v82 : BitVec 32 := Scalar.divsi v80 c1_i32_25
  let v83 : BitVec 32 := Scalar.muli v82 c1_i32_25
  let v84 : BitVec 32 := Scalar.addi c0_i32_24 v83
  let c1_i32_27 : BitVec 32 := 1#32
  let arg7 : BitVec 32 := Scf.iv v84 c1_i32_27 k0_t2
  let c512_i32_66 : BitVec 32 := 512#32
  let v173 : BitVec 32 := Scalar.muli arg7 c512_i32_66
  let v174 : BitVec 32 := v173
  let v175 : Index := Scalar.indexCast v174
  let c0_68 : Index := 0#32
  ![0, v175.toNat, 0]
def k0_off10 (i : grid0.Coords) : Fin 3 → Nat :=
  let c0_69 : Index := 0#32
  let arg1 : BitVec 32 := BitVec.ofNat 32 (i 1).val
  let c512_i32 : BitVec 32 := 512#32
  let v2 : BitVec 32 := Scalar.muli arg1 c512_i32
  let v3 : BitVec 32 := v2
  let v178 : Index := Scalar.indexCast v3
  let c0_70 : Index := 0#32
  ![0, v178.toNat, 0]
def k0_off11 (i : grid0.Coords) (k0_t2 : Fin (k0_t2_loop i).trips) : Fin 2 → Nat :=
  let c0_i32_24 : BitVec 32 := 0#32
  let arg1 : BitVec 32 := BitVec.ofNat 32 (i 1).val
  let v80 : BitVec 32 := Scalar.subi arg1 c0_i32_24
  let c1_i32_25 : BitVec 32 := 1#32
  let v82 : BitVec 32 := Scalar.divsi v80 c1_i32_25
  let v83 : BitVec 32 := Scalar.muli v82 c1_i32_25
  let v84 : BitVec 32 := Scalar.addi c0_i32_24 v83
  let c1_i32_27 : BitVec 32 := 1#32
  let arg7 : BitVec 32 := Scf.iv v84 c1_i32_27 k0_t2
  let c512_i32_66 : BitVec 32 := 512#32
  let v173 : BitVec 32 := Scalar.muli arg7 c512_i32_66
  let v174 : BitVec 32 := v173
  let v182 : Index := Scalar.indexCast v174
  let c0_72 : Index := 0#32
  ![v182.toNat, 0]
def k0_cond1 (i : grid0.Coords) (v1 : BitVec 32) : BitVec 1 :=
  let arg1 : BitVec 32 := BitVec.ofNat 32 (i 1).val
  let c512_i32 : BitVec 32 := 512#32
  let v2 : BitVec 32 := Scalar.muli arg1 c512_i32
  let v3 : BitVec 32 := v2
  let v4 : BitVec 1 := Scalar.cmpi .slt v3 v1
  let v5 : BitVec 32 := Scalar.extui v4
  let c0_i32 : BitVec 32 := 0#32
  let v6 : BitVec 1 := Scalar.cmpi .ne v5 c0_i32
  v6

def k0_cond2 (i : grid0.Coords) (v1 : BitVec 32) : BitVec 1 :=
  let arg1 : BitVec 32 := BitVec.ofNat 32 (i 1).val
  let c512_i32 : BitVec 32 := 512#32
  let v2 : BitVec 32 := Scalar.muli arg1 c512_i32
  let v3 : BitVec 32 := v2
  let v7 : BitVec 1 := Scalar.cmpi .sge v3 v1
  let v8 : BitVec 32 := Scalar.extui v7
  let c0_i32_0 : BitVec 32 := 0#32
  let v9 : BitVec 1 := Scalar.cmpi .ne v8 c0_i32_0
  v9

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x16384x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S6x16384x512 : Shape := ⟨3, ![6, 16384, 512]⟩
abbrev S6x16384 : Shape := ⟨2, ![6, 16384]⟩
abbrev S6 : Shape := ⟨1, ![6]⟩
abbrev S6x16384x16384 : Shape := ⟨3, ![6, 16384, 16384]⟩
abbrev S6x16384x1 : Shape := ⟨3, ![6, 16384, 1]⟩
abbrev S6x1x16384 : Shape := ⟨3, ![6, 1, 16384]⟩
abbrev S6x1x1 : Shape := ⟨3, ![6, 1, 1]⟩
abbrev S6x1 : Shape := ⟨2, ![6, 1]⟩

abbrev nBuf : Space → Nat
  | .hbm => 4
  | .vmem => 4
  | .smem => 0
  | _ => 0

abbrev bufTy : (tb : Table) → Fin (tcTables nBuf tb) → BufTy
  | .hbm, ⟨0, _⟩ => ⟨S6x16384x512, .fp8e4m3⟩
  | .hbm, ⟨1, _⟩ => ⟨S6x16384, .f32⟩
  | .hbm, ⟨2, _⟩ => ⟨S6, .i32⟩
  | .hbm, ⟨3, _⟩ => ⟨S6x16384, .f32⟩
  | .local _ .vmem, ⟨0, _⟩ => ⟨S6x16384x512, .fp8e4m3⟩
  | .local _ .vmem, ⟨1, _⟩ => ⟨S6x16384, .f32⟩
  | .local _ .vmem, ⟨2, _⟩ => ⟨S6, .i32⟩
  | .local _ .vmem, ⟨3, _⟩ => ⟨S6x16384, .f32⟩
  | _, _ => ⟨S6x16384x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S6x16384x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.SpecKernel.lean ====
/-
  What one grid point of the kernel leaves, as plain functions of the blocks it finds: the codes of its cluster, the
  scales of its cluster and the cluster's size.
-/
module

public import proofs.«01_k».proof.Proof.Gen.Kernel.Launch
public import proofs.«01_k».proof.Proof.Gen.Kernel.Skeleton
public import proofs.«01_k».proof.Proof.Gen.Kernel.Loops
public import Idealize.ShloMosaic.Lib.Pipeline.FrameBody
public import Idealize.ShloMosaic.Lib.Pointwise
public import Idealize.ShloMosaic.Lib.WritesUnit
public import Idealize.ShloMosaic.Lib.WordCmp

@[expose] public section

set_option maxRecDepth 16384

noncomputable section

namespace Cert.Kernel.Hand

open Idealize.ShloMosaic Idealize.ShloMosaic.TcCoe Idealize.SL.Sem
open Cert.Kernel.Gen
open Idealize.ShloMosaic.WordCmp

variable {F : FTy → Type} [FloatOps F]

/-- The scales of a cluster laid out as a column of 16384 rows, every lane alike. -/
def col (x4 : Vec F S1x128x128 .f32) : Vec F S16384x128 .f32 :=
  fun y => x4 (ix3 (0 : Fin 1) (⟨(y 0).val / 128, by have := (y 0).isLt; change (y 0).val < 16384 at this; omega⟩ : Fin 128)
    (⟨(y 0).val % 128, Nat.mod_lt _ (by decide)⟩ : Fin 128))

/-- The `k`-th block of 512 rows of the codes. -/
def kblk (x3 : Vec F S1x16384x512 .fp8e4m3) (k : ℕ) : Vec F S1x512x512 .fp8e4m3 :=
  fun y => x3 (ix3 (0 : Fin 1) (⟨(512 * k + (y 1).val) % 16384, Nat.mod_lt _ (by decide)⟩ : Fin 16384) (y 2))

/-- The `k`-th block of 512 rows of the column of scales. -/
def cblk (x4 : Vec F S1x128x128 .f32) (k : ℕ) : Vec F S512x128 .f32 :=
  fun y => col x4 (ix2 (⟨(512 * k + (y 0).val) % 16384, Nat.mod_lt _ (by decide)⟩ : Fin 16384) (y 1))

/-- Row `r` of the scales as they lie in memory (128 positions a row). -/
def srow (x4 : Vec F S1x128x128 .f32) (r : ℕ) : Vec F S1x1x128 .f32 :=
  fun y => x4 (ix3 (0 : Fin 1) (⟨r % 128, Nat.mod_lt _ (by decide)⟩ : Fin 128) (y 2))

/-- The running maxima of query block `q` after its own key block and the first `n` key blocks. -/
def accN (x3 : Vec F S1x16384x512 .fp8e4m3) (x4 : Vec F S1x128x128 .f32) (q : ℕ) : ℕ → FVec F S8x512 .f32
  | 0 => k0_pay7 (kblk x3 q) (kblk x3 q) (cblk x4 q)
  | n + 1 => k0_pay8 (accN x3 x4 q n) (kblk x3 n) (kblk x3 q) (cblk x4 n)

/-- The 512 maxima of query block `q`. -/
def best (x3 : Vec F S1x16384x512 .fp8e4m3) (x4 : Vec F S1x128x128 .f32) (q : ℕ) : FVec F S1x512 .f32 :=
  k0_pay10 (accN x3 x4 q q)

/-- The first position of query block `q`, as the kernel computes it. -/
def base (q : ℕ) : BitVec 32 := Scalar.muli (BitVec.ofNat 32 q) 512#32

/-- The four rows a grid point with positions inside the cluster leaves. -/
def liveOut (q : ℕ) (v1 : Elt F .i32) (x3 : Vec F S1x16384x512 .fp8e4m3) (x4 : Vec F S1x128x128 .f32) : Vec F S1x4x128 .f32 :=
  fun y =>
    if (y 1).val = 0 then k0_pay11 v1 (base q) (best x3 x4 q) (srow x4 (4 * q)) (ix3 (0 : Fin 1) (0 : Fin 1) (y 2))
    else if (y 1).val = 1 then k0_pay13 (k0_pay12 v1 (base q) (best x3 x4 q) (srow x4 (4 * q + 1))) (ix3 (0 : Fin 1) (0 : Fin 1) (y 2))
    else if (y 1).val = 2 then k0_pay14 v1 (base q) (best x3 x4 q) (srow x4 (4 * q + 2)) (ix3 (0 : Fin 1) (0 : Fin 1) (y 2))
    else k0_pay1 (k0_pay15 (best x3 x4 q) (srow x4 (4 * q + 3))) (k0_pay16 v1 (base q)) k0_pay17 (ix3 (0 : Fin 1) (0 : Fin 1) (y 2))

/-- What a grid point leaves: the four rows when the cluster has positions there, zeros otherwise. -/
def outBlk (i : grid0.Coords) (v1 : Elt F .i32) (x3 : Vec F S1x16384x512 .fp8e4m3) (x4 : Vec F S1x128x128 .f32) : Vec F S1x4x128 .f32 :=
  if k0_cond1 i v1 = 1#1 then liveOut (i 1).val v1 x3 x4 else k0_pay2

/-! ## The offsets the kernel computes, in closed form -/

/-- Where the r-th row of a block of scales starts. -/
theorem off2_eq (i : grid0.Coords) (r : Fin 4) : k0_off2 i (BitVec.ofNat 32 r.val) = ![0, 4 * (i 1).val + r.val, 0] := by
  have h : ∀ (q : Fin 32) (r : Fin 4), (Scalar.indexCast (Scalar.addi (Scalar.muli (BitVec.ofNat 32 q.val) 4#32) (BitVec.ofNat 32 r.val))).toNat = 4 * q.val + r.val := by decide +kernel
  exact congrArg (fun n => ![0, n, 0]) (h (i 1) r)

/-- Where the r-th group of a block's column entries starts. -/
theorem off3_eq (i : grid0.Coords) (r : Fin 4) : k0_off3 i (BitVec.ofNat 32 (128 * r.val)) = ![512 * (i 1).val + 128 * r.val, 0] := by
  have h : ∀ (q : Fin 32) (r : Fin 4), (Scalar.indexCast (Scalar.addi (Scalar.muli (BitVec.ofNat 32 q.val) 512#32) (BitVec.ofNat 32 (128 * r.val)))).toNat = 512 * q.val + 128 * r.val := by decide +kernel
  exact congrArg (fun n => ![n, 0]) (h (i 1) r)

/-- The start of block q, as the kernel computes it, is 512 q. -/
theorem blk_off (q : Fin 32) : (Scalar.indexCast (Scalar.muli (BitVec.ofNat 32 q.val) 512#32)).toNat = 512 * q.val := by
  revert q; decide +kernel

/-- Where the codes of the diagonal block start (as candidates). -/
theorem off4_eq (i : grid0.Coords) : k0_off4 i = ![0, 512 * (i 1).val, 0] := congrArg (fun n => ![0, n, 0]) (blk_off (i 1))
/-- Where the codes of the point's own block start (as queries). -/
theorem off7_eq (i : grid0.Coords) : k0_off7 i = ![0, 512 * (i 1).val, 0] := congrArg (fun n => ![0, n, 0]) (blk_off (i 1))
/-- Where the column entries of the diagonal block start. -/
theorem off5_eq (i : grid0.Coords) : k0_off5 i = ![512 * (i 1).val, 0] := congrArg (fun n => ![n, 0]) (blk_off (i 1))

/-- The loop from 0 to q runs q times. -/
theorem trips1_aux (q : Fin 32) : Scf.trips 0#32 (Scalar.addi 0#32 (Scalar.muli (Scalar.divsi (Scalar.subi (BitVec.ofNat 32 q.val) 0#32) 1#32) 1#32)) 1#32 = q.val := by
  revert q; decide +kernel
/-- The remainder loop runs no times. -/
theorem trips2_aux (q : Fin 32) : Scf.trips (Scalar.addi 0#32 (Scalar.muli (Scalar.divsi (Scalar.subi (BitVec.ofNat 32 q.val) 0#32) 1#32) 1#32)) (Scalar.addi 0#32 (Scalar.subi (BitVec.ofNat 32 q.val) 0#32)) 1#32 = 0 := by
  revert q; decide +kernel

/-- The loop over earlier blocks runs once for each block before q. -/
theorem trips1 (i : grid0.Coords) : (k0_t1_loop i).trips = (i 1).val := trips1_aux (i 1)
/-- The remainder loop of a point runs no times. -/
theorem trips2 (i : grid0.Coords) : (k0_t2_loop i).trips = 0 := trips2_aux (i 1)

/-- The start of block k, as the loop computes it, is 512 k. -/
theorem trip_off (k : Fin 32) : (Scalar.indexCast (Scalar.muli (Scf.iv 0#32 1#32 k.val) 512#32)).toNat = 512 * k.val := by
  revert k; decide +kernel

/-- A trip number is a block before the point's own. -/
theorem trip_lt (i : grid0.Coords) (k : Fin (k0_t1_loop i).trips) : k.val < (i 1).val :=
  lt_of_lt_of_eq k.isLt (trips1 i)

/-- A cluster has 32 blocks. -/
theorem lt32 (i : grid0.Coords) : (i 1).val < 32 := (i 1).isLt

/-- Where trip k's candidate codes start. -/
theorem off6_eq (i : grid0.Coords) (k : Fin (k0_t1_loop i).trips) : k0_off6 i k = ![0, 512 * k.val, 0] :=
  congrArg (fun n => ![0, n, 0]) (trip_off ⟨k.val, (trip_lt i k).trans (lt32 i)⟩)
/-- Where trip k's column entries start. -/
theorem off8_eq (i : grid0.Coords) (k : Fin (k0_t1_loop i).trips) : k0_off8 i k = ![512 * k.val, 0] :=
  congrArg (fun n => ![n, 0]) (trip_off ⟨k.val, (trip_lt i k).trans (lt32 i)⟩)

/-! ## The two branch conditions -/

/-- The first position of block q, read as a signed integer, is 512 q. -/
theorem base_toInt (q : Fin 32) : (base q.val).toInt = ((512 * q.val : ℕ) : ℤ) := by
  revert q; decide +kernel

/-- A bit widened to a word is nonzero just where the bit is set. -/
theorem ext_ne (b : BitVec 1) : Scalar.cmpi .ne (Scalar.extui b : BitVec 32) 0#32 = b := by
  revert b; decide

/-- The first branch is taken exactly where the cluster has positions in the query block. -/
theorem cond1_iff (i : grid0.Coords) (v1 : BitVec 32) : k0_cond1 i v1 = 1#1 ↔ ((512 * (i 1).val : ℕ) : ℤ) < v1.toInt := by
  have e : k0_cond1 i v1 = IntOp.cmpi .slt (base (i 1).val) v1 := ext_ne _
  rw [e, cmpi_slt_eq, ofBool_decide_eq_one_iff]
  exact iff_of_eq (congrArg (· < v1.toInt) (base_toInt (i 1)))

/-- The second branch is taken exactly where the first is not. -/
theorem cond2_iff (i : grid0.Coords) (v1 : BitVec 32) : k0_cond2 i v1 = 1#1 ↔ k0_cond1 i v1 ≠ 1#1 := by
  have e : k0_cond2 i v1 = IntOp.cmpi .sge (base (i 1).val) v1 := ext_ne _
  rw [Ne, cond1_iff, e, cmpi_sge_eq, ofBool_decide_eq_one_iff, not_lt]
  exact iff_of_eq (congrArg (v1.toInt ≤ ·) (base_toInt (i 1)))

/-! ## The loads, in closed form -/

/-- A load of 512 rows of the codes at row `512 k` reads block `k`. -/
theorem ld_codes (x3 : Vec F S1x16384x512 .fp8e4m3) (off : Fin 3 → ℕ) (inb : ∀ a, off a + S1x512x512.size a ≤ S1x16384x512.size a)
    (k : ℕ) (hk : k < 32) (hoff : off = ![0, 512 * k, 0]) :
    (View.ld x3 (Rect.unit (s := S1x16384x512) off S1x512x512.size inb) : Vec F S1x512x512 .fp8e4m3) = kblk x3 k := by
  subst hoff
  funext y
  have h1 : (y 1).val < 512 := (y 1).isLt
  have h0 : (y 0).val < 1 := (y 0).isLt
  unfold kblk
  refine congrArg x3 (funext fun a => Fin.ext ?_)
  match a with
  | ⟨0, _⟩ => show 0 + 1 * (y 0).val = 0; omega
  | ⟨1, _⟩ => show 512 * k + 1 * (y 1).val = (512 * k + (y 1).val) % 16384; omega
  | ⟨2, _⟩ => show 0 + 1 * (y 2).val = (y 2).val; omega

/-- A load of one row of scales reads that row. -/
theorem ld_scales (x4 : Vec F S1x128x128 .f32) (off : Fin 3 → ℕ) (inb : ∀ a, off a + S1x1x128.size a ≤ S1x128x128.size a)
    (r : ℕ) (hr : r < 128) (hoff : off = ![0, r, 0]) :
    (View.ld x4 (Rect.unit (s := S1x128x128) off S1x1x128.size inb) : Vec F S1x1x128 .f32) = srow x4 r := by
  subst hoff
  funext y
  have h1 : (y 1).val < 1 := (y 1).isLt
  have h0 : (y 0).val < 1 := (y 0).isLt
  unfold srow
  refine congrArg x4 (funext fun a => Fin.ext ?_)
  match a with
  | ⟨0, _⟩ => show 0 + 1 * (y 0).val = 0; omega
  | ⟨1, _⟩ => show r + 1 * (y 1).val = r % 128; omega
  | ⟨2, _⟩ => show 0 + 1 * (y 2).val = (y 2).val; omega

/-- A load of 512 rows of the column buffer at row `512 k` reads block `k` of the column of scales, where the buffer
    holds it. -/
theorem ld_col (X : Vec F S16384x128 .f32) (x4 : Vec F S1x128x128 .f32) (off : Fin 2 → ℕ) (inb : ∀ a, off a + S512x128.size a ≤ S16384x128.size a)
    (k : ℕ) (hk : k < 32) (hoff : off = ![512 * k, 0])
    (hX : ∀ y : S16384x128.Idx, 512 * k ≤ (y 0).val → (y 0).val < 512 * (k + 1) → X y = col x4 y) :
    (View.ld X (Rect.unit (s := S16384x128) off S512x128.size inb) : Vec F S512x128 .f32) = cblk x4 k := by
  subst hoff
  funext y
  have h0 : (y 0).val < 512 := (y 0).isLt
  refine (hX _ (show 512 * k ≤ 512 * k + 1 * (y 0).val by omega) (show 512 * k + 1 * (y 0).val < 512 * (k + 1) by omega)).trans ?_
  unfold cblk
  refine congrArg (col x4) (funext fun a => Fin.ext ?_)
  match a with
  | ⟨0, _⟩ => show 512 * k + 1 * (y 0).val = (512 * k + (y 0).val) % 16384; omega
  | ⟨1, _⟩ => show 0 + 1 * (y 1).val = (y 1).val; omega

/-- One row of scales transposed into 128 rows, every lane alike. -/
theorem pay3_at (v : Vec F S1x1x128 .f32) (a b : Fin 128) : k0_pay3 v (ix2 a b) = v (ix3 (0 : Fin 1) (0 : Fin 1) a) := by
  pointwise [k0_pay3]
/-- The second group of column entries repeats its row of scales in every lane. -/
theorem pay4_at (v : Vec F S1x1x128 .f32) (a b : Fin 128) : k0_pay4 v (ix2 a b) = v (ix3 (0 : Fin 1) (0 : Fin 1) a) := by
  pointwise [k0_pay4]
/-- The third group of column entries repeats its row of scales in every lane. -/
theorem pay5_at (v : Vec F S1x1x128 .f32) (a b : Fin 128) : k0_pay5 v (ix2 a b) = v (ix3 (0 : Fin 1) (0 : Fin 1) a) := by
  pointwise [k0_pay5]
/-- The fourth group of column entries repeats its row of scales in every lane. -/
theorem pay6_at (v : Vec F S1x1x128 .f32) (a b : Fin 128) : k0_pay6 v (ix2 a b) = v (ix3 (0 : Fin 1) (0 : Fin 1) a) := by
  pointwise [k0_pay6]

/-- What the four stores into the column buffer leave in their 512 rows: the column of scales. -/
theorem read_col_new {κ : Kind} {sp : Space} (v : View sig κ sp S16384x128 .f32) (f : v.ty.Contents (Elt F)) (x4 : Vec F S1x128x128 .f32)
    (i : grid0.Coords)
    (w0 w1 w2 w3 : Vec F S128x128 .f32)
    (h0 : w0 = k0_pay3 (srow x4 (4 * (i 1).val))) (h1 : w1 = k0_pay4 (srow x4 (4 * (i 1).val + 1)))
    (h2 : w2 = k0_pay5 (srow x4 (4 * (i 1).val + 2))) (h3 : w3 = k0_pay6 (srow x4 (4 * (i 1).val + 3)))
    (y : S16384x128.Idx) (hlo : 512 * (i 1).val ≤ (y 0).val) (hhi : (y 0).val < 512 * ((i 1).val + 1)) :
    v.read (Elt F) (v.writes (Elt F) f [
      ⟨Rect.unit (s := S16384x128) (k0_off3 i 384#32) S128x128.size (k0_off3_inb i 3), w3⟩,
      ⟨Rect.unit (s := S16384x128) (k0_off3 i 256#32) S128x128.size (k0_off3_inb i 2), w2⟩,
      ⟨Rect.unit (s := S16384x128) (k0_off3 i 128#32) S128x128.size (k0_off3_inb i 1), w1⟩,
      ⟨Rect.unit (s := S16384x128) (k0_off3 i 0#32) S128x128.size (k0_off3_inb i 0), w0⟩]) y = col x4 y := by
  have hq := lt32 i
  have e0 : k0_off3 i 0#32 = ![512 * (i 1).val + 0, 0] := off3_eq i 0
  have e1 : k0_off3 i 128#32 = ![512 * (i 1).val + 128, 0] := off3_eq i 1
  have e2 : k0_off3 i 256#32 = ![512 * (i 1).val + 256, 0] := off3_eq i 2
  have e3 : k0_off3 i 384#32 = ![512 * (i 1).val + 384, 0] := off3_eq i 3
  have key : ∀ r : ℕ, r < 4 → 512 * (i 1).val + 128 * r ≤ (y 0).val → ∀ h : (y 0).val - (512 * (i 1).val + 128 * r) < 128,
      srow x4 (4 * (i 1).val + r) (ix3 (0 : Fin 1) (0 : Fin 1) (⟨(y 0).val - (512 * (i 1).val + 128 * r), h⟩ : Fin 128)) = col x4 y := by
    intro r hr hl h
    unfold srow col
    refine congrArg x4 (funext fun a => Fin.ext ?_)
    match a with
    | ⟨0, _⟩ => rfl
    | ⟨1, _⟩ => show (4 * (i 1).val + r) % 128 = (y 0).val / 128; omega
    | ⟨2, _⟩ => show (y 0).val - (512 * (i 1).val + 128 * r) = (y 0).val % 128; omega
  by_cases c3 : 512 * (i 1).val + 384 ≤ (y 0).val
  · refine (View.read_writes_cons_rows_of_mem v f _ _ _ y (ix2 (⟨(y 0).val - (512 * (i 1).val + 384), by omega⟩ : Fin 128) (y 1)) e3
      (by show (y 0).val = 512 * (i 1).val + 384 + ((y 0).val - (512 * (i 1).val + 384)); omega) rfl).trans ?_
    subst h3; exact (pay6_at _ _ _).trans (key 3 (by omega) c3 _)
  rw [View.read_writes_cons_rows_of_not_mem v f _ _ _ y e3 rfl (Or.inl (by omega))]
  by_cases c2 : 512 * (i 1).val + 256 ≤ (y 0).val
  · refine (View.read_writes_cons_rows_of_mem v f _ _ _ y (ix2 (⟨(y 0).val - (512 * (i 1).val + 256), by omega⟩ : Fin 128) (y 1)) e2
      (by show (y 0).val = 512 * (i 1).val + 256 + ((y 0).val - (512 * (i 1).val + 256)); omega) rfl).trans ?_
    subst h2; exact (pay5_at _ _ _).trans (key 2 (by omega) c2 _)
  rw [View.read_writes_cons_rows_of_not_mem v f _ _ _ y e2 rfl (Or.inl (by omega))]
  by_cases c1 : 512 * (i 1).val + 128 ≤ (y 0).val
  · refine (View.read_writes_cons_rows_of_mem v f _ _ _ y (ix2 (⟨(y 0).val - (512 * (i 1).val + 128), by omega⟩ : Fin 128) (y 1)) e1
      (by show (y 0).val = 512 * (i 1).val + 128 + ((y 0).val - (512 * (i 1).val + 128)); omega) rfl).trans ?_
    subst h1; exact (pay4_at _ _ _).trans (key 1 (by omega) c1 _)
  rw [View.read_writes_cons_rows_of_not_mem v f _ _ _ y e1 rfl (Or.inl (by omega))]
  refine (View.read_writes_cons_rows_of_mem v f _ _ _ y (ix2 (⟨(y 0).val - (512 * (i 1).val + 0), by omega⟩ : Fin 128) (y 1)) e0
      (by show (y 0).val = 512 * (i 1).val + 0 + ((y 0).val - (512 * (i 1).val + 0)); omega) rfl).trans ?_
  subst h0; exact (pay3_at _ _ _).trans (key 0 (by omega) hlo _)

/-- The four stores into the column buffer leave the rows before theirs as they were. -/
theorem read_col_old {κ : Kind} {sp : Space} (v : View sig κ sp S16384x128 .f32) (f : v.ty.Contents (Elt F))
    (i : grid0.Coords) (w0 w1 w2 w3 : Vec F S128x128 .f32)
    (y : S16384x128.Idx) (hlo : (y 0).val < 512 * (i 1).val) :
    v.read (Elt F) (v.writes (Elt F) f [
      ⟨Rect.unit (s := S16384x128) (k0_off3 i 384#32) S128x128.size (k0_off3_inb i 3), w3⟩,
      ⟨Rect.unit (s := S16384x128) (k0_off3 i 256#32) S128x128.size (k0_off3_inb i 2), w2⟩,
      ⟨Rect.unit (s := S16384x128) (k0_off3 i 128#32) S128x128.size (k0_off3_inb i 1), w1⟩,
      ⟨Rect.unit (s := S16384x128) (k0_off3 i 0#32) S128x128.size (k0_off3_inb i 0), w0⟩]) y = v.read (Elt F) f y := by
  have e0 : k0_off3 i 0#32 = ![512 * (i 1).val + 0, 0] := off3_eq i 0
  have e1 : k0_off3 i 128#32 = ![512 * (i 1).val + 128, 0] := off3_eq i 1
  have e2 : k0_off3 i 256#32 = ![512 * (i 1).val + 256, 0] := off3_eq i 2
  have e3 : k0_off3 i 384#32 = ![512 * (i 1).val + 384, 0] := off3_eq i 3
  rw [View.read_writes_cons_rows_of_not_mem v f _ _ _ y e3 rfl (Or.inl (by omega)),
    View.read_writes_cons_rows_of_not_mem v f _ _ _ y e2 rfl (Or.inl (by omega)),
    View.read_writes_cons_rows_of_not_mem v f _ _ _ y e1 rfl (Or.inl (by omega)),
    View.read_writes_cons_rows_of_not_mem v f _ _ _ y e0 rfl (Or.inl (by omega))]
  rfl

/-- What the four row stores into the output block leave. -/
theorem read_out {κ : Kind} {sp : Space} (v : View sig κ sp S1x4x128 .f32) (f : v.ty.Contents (Elt F))
    (w0 w1 w2 w3 : Vec F S1x1x128 .f32) (y : S1x4x128.Idx) :
    v.read (Elt F) (v.writes (Elt F) f [
      ⟨Rect.unit (s := S1x4x128) ![0, 3, 0] S1x1x128.size inb_S1x4x128_S1x1x128_0_3_0, w3⟩,
      ⟨Rect.unit (s := S1x4x128) ![0, 2, 0] S1x1x128.size inb_S1x4x128_S1x1x128_0_2_0, w2⟩,
      ⟨Rect.unit (s := S1x4x128) ![0, 1, 0] S1x1x128.size inb_S1x4x128_S1x1x128_0_1_0, w1⟩,
      ⟨Rect.unit (s := S1x4x128) ![0, 0, 0] S1x1x128.size inb_S1x4x128_S1x1x128_0_0_0, w0⟩]) y
    = if (y 1).val = 0 then w0 (ix3 (0 : Fin 1) (0 : Fin 1) (y 2)) else if (y 1).val = 1 then w1 (ix3 (0 : Fin 1) (0 : Fin 1) (y 2))
      else if (y 1).val = 2 then w2 (ix3 (0 : Fin 1) (0 : Fin 1) (y 2)) else w3 (ix3 (0 : Fin 1) (0 : Fin 1) (y 2)) := by
  have h1 : (y 1).val < 4 := (y 1).isLt
  have h0 : (y 0).val < 1 := (y 0).isLt
  have hx : ∀ r : ℕ, (y 1).val = r → ∀ a, (y a).val = (![0, r, 0] : Fin 3 → ℕ) a + ((ix3 (0 : Fin 1) (0 : Fin 1) (y 2) : S1x1x128.Idx) a).val := by
    intro r hr a
    match a with
    | ⟨0, _⟩ => show (y 0).val = 0 + 0; omega
    | ⟨1, _⟩ => show (y 1).val = r + 0; omega
    | ⟨2, _⟩ => show (y 2).val = 0 + (y 2).val; omega
  have hn : ∀ r : ℕ, (y 1).val ≠ r → (y 1).val < (![0, r, 0] : Fin 3 → ℕ) 1 ∨ (![0, r, 0] : Fin 3 → ℕ) 1 + S1x1x128.size 1 ≤ (y 1).val := by
    intro r hr
    show (y 1).val < r ∨ r + 1 ≤ (y 1).val
    omega
  by_cases c3 : (y 1).val = 3
  · rw [if_neg (by omega), if_neg (by omega), if_neg (by omega)]
    exact View.read_writes_cons_unit_of_mem v f _ _ _ y (ix3 (0 : Fin 1) (0 : Fin 1) (y 2)) rfl (hx 3 c3)
  rw [View.read_writes_cons_unit_of_not_mem v f _ _ _ y rfl 1 (hn 3 c3)]
  by_cases c2 : (y 1).val = 2
  · rw [if_neg (by omega), if_neg (by omega), if_pos c2]
    exact View.read_writes_cons_unit_of_mem v f _ _ _ y (ix3 (0 : Fin 1) (0 : Fin 1) (y 2)) rfl (hx 2 c2)
  rw [View.read_writes_cons_unit_of_not_mem v f _ _ _ y rfl 1 (hn 2 c2)]
  by_cases c1 : (y 1).val = 1
  · rw [if_neg (by omega), if_pos c1]
    exact View.read_writes_cons_unit_of_mem v f _ _ _ y (ix3 (0 : Fin 1) (0 : Fin 1) (y 2)) rfl (hx 1 c1)
  rw [View.read_writes_cons_unit_of_not_mem v f _ _ _ y rfl 1 (hn 1 c1)]
  have c0 : (y 1).val = 0 := by omega
  rw [if_pos c0]
  exact View.read_writes_cons_unit_of_mem v f _ _ _ y (ix3 (0 : Fin 1) (0 : Fin 1) (y 2)) rfl (hx 0 c0)

end Cert.Kernel.Hand
-- ==== Proof.BodyKernel.lean ====
/-
  The body of the kernel at one grid point: from the blocks it finds to the output block and the column buffer it leaves.
-/
module

public import proofs.«01_k».proof.Proof.SpecKernel
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

abbrev tbM : Memref sig .tc .smem S6 .i32 := Memref.whole main_arg2
abbrev htbM : tbM.IsWhole := Memref.isWhole_whole _
abbrev TbBuf (c : Dev nD) : Type := Buf (Elt F) (tbM.view.loc (c : Thread nD τ))
abbrev tbPt (c : Dev nD) (f : TbBuf (F := F) c) : sProp 𝕄 :=
  tbM.view.loc (c : Thread nD τ) ↦{fullShare.right} f

/-- The size of the point's cluster, as the body reads it from the table. -/
abbrev word (c : Dev nD) (i : grid0.Coords) (f2 : TbBuf (F := F) c) : Elt F .i32 :=
  tbM.view.readAt (Elt F) (Rect.unit (s := S6) (k0_off1 i) S1.size (k0_off1_inb i)) f2 (Shape.Idx.first (numel1_S1.symm ▸ Nat.one_pos))

/-- One trip of the loop over the earlier key blocks. -/
theorem tripR_eq (𝒱 : Variants) (c : Dev nD) (bd : Option 𝒱.V) (i : grid0.Coords) (arg2 : Memref sig .tc .smem S6 .i32) (harg2 : arg2.IsWhole) (arg3 : Memref sig .tc .vmem S1x16384x512 .fp8e4m3) (harg3 : arg3.IsWhole) (arg4 : Memref sig .tc .vmem S1x128x128 .f32) (harg4 : arg4.IsWhole) (arg5 : Memref sig .tc .vmem S1x4x128 .f32) (harg5 : arg5.IsWhole) (arg6 : Memref sig .tc .vmem S16384x128 .f32) (harg6 : arg6.IsWhole) (arg1 : BitVec 32) (v3 : BitVec 32) (X_arg3 : BufTy.Contents (Elt F) arg3.view.ty) (X_arg6 : BufTy.Contents (Elt F) arg6.view.ty) (k : Fin (k0_t1_loop i).trips) (acc : FVec F S8x512 .f32) :
   tripR_k0_t1 (F := F) 𝒱 c bd i arg2 harg2 arg3 harg3 arg4 harg4 arg5 harg5 arg6 harg6 arg1 v3 X_arg3 X_arg6 k acc
     = k0_pay8 acc (View.ld (arg3.view.read (Elt F) X_arg3) (Rect.unit (s := S1x16384x512) (k0_off6 i k) S1x512x512.size (k0_off6_inb i k)))
        (View.ld (arg3.view.read (Elt F) X_arg3) (Rect.unit (s := S1x16384x512) (k0_off7 i) S1x512x512.size (k0_off7_inb i)))
        (View.ld (arg6.view.read (Elt F) X_arg6) (Rect.unit (s := S16384x128) (k0_off8 i k) S512x128.size (k0_off8_inb i k))) := by
  unfold tripR_k0_t1 trip_k0_t1
  rfl

/-- The loop over the earlier key blocks carries the running maxima. -/
theorem st_eq (𝒱 : Variants) (c : Dev nD) (bd : Option 𝒱.V) (i : grid0.Coords) (arg2 : Memref sig .tc .smem S6 .i32) (harg2 : arg2.IsWhole) (arg3 : Memref sig .tc .vmem S1x16384x512 .fp8e4m3) (harg3 : arg3.IsWhole) (arg4 : Memref sig .tc .vmem S1x128x128 .f32) (harg4 : arg4.IsWhole) (arg5 : Memref sig .tc .vmem S1x4x128 .f32) (harg5 : arg5.IsWhole) (arg6 : Memref sig .tc .vmem S16384x128 .f32) (harg6 : arg6.IsWhole) (arg1 : BitVec 32) (v3 : BitVec 32) (X_arg3 : BufTy.Contents (Elt F) arg3.view.ty) (X_arg6 : BufTy.Contents (Elt F) arg6.view.ty)
    (x4 : Vec F S1x128x128 .f32)
    (hX : ∀ y : S16384x128.Idx, (y 0).val < 512 * (i 1).val → arg6.view.read (Elt F) X_arg6 y = col x4 y)
    (n : ℕ) (hn : n ≤ (i 1).val) :
    st_k0_t1 (F := F) 𝒱 c bd i arg2 harg2 arg3 harg3 arg4 harg4 arg5 harg5 arg6 harg6 arg1 v3 X_arg3 X_arg6 (accN (arg3.view.read (Elt F) X_arg3) x4 (i 1).val 0) n
      = accN (arg3.view.read (Elt F) X_arg3) x4 (i 1).val n := by
  induction n with
  | zero => exact st_k0_t1_zero ..
  | succ n ih =>
    have hq := lt32 i
    have hk : n < (k0_t1_loop i).trips := lt_of_lt_of_eq (show n < (i 1).val by omega) (trips1 i).symm
    refine (st_k0_t1_succ 𝒱 c bd i arg2 harg2 arg3 harg3 arg4 harg4 arg5 harg5 arg6 harg6 arg1 v3 X_arg3 X_arg6 _ ⟨n, hk⟩).trans ?_
    rw [tripR_eq, ld_codes _ _ _ n (by omega) (off6_eq i ⟨n, hk⟩), ld_codes _ _ _ (i 1).val hq (off7_eq i),
      ld_col _ x4 _ _ n (by omega) (off8_eq i ⟨n, hk⟩) (fun y _ hy => hX y (by omega)), ih (by omega)]
    rfl

set_option maxHeartbeats 4000000 in
/-- A grid point with positions inside the cluster: the four rows, and the column buffer 512 rows further. -/
theorem live (c : Dev nD) (E : Set ℕ) (i : grid0.Coords) (f2 : TbBuf (F := F) c)
    (arg3 : Memref sig .tc .vmem S1x16384x512 .fp8e4m3) (harg3 : arg3.IsWhole) (arg4 : Memref sig .tc .vmem S1x128x128 .f32) (harg4 : arg4.IsWhole) (arg5 : Memref sig .tc .vmem S1x4x128 .f32) (harg5 : arg5.IsWhole) (arg6 : Memref sig .tc .vmem S16384x128 .f32) (harg6 : arg6.IsWhole)
    (x3 : Vec F S1x16384x512 .fp8e4m3) (x4 : Vec F S1x128x128 .f32) (x6 : Vec F S16384x128 .f32)
    (hl : k0_cond1 i (word c i f2) = 1#1) (hd : k0_cond2 i (word c i f2) ≠ 1#1)
    (h6 : ∀ y : S16384x128.Idx, (y 0).val < 512 * (i 1).val → x6 y = col x4 y)
    (K : PUnit → sProp 𝕄) :
    iprop(tbPt c f2 ∗ owns (c : Thread nD τ) arg3 fullShare x3 ∗ owns (c : Thread nD τ) arg4 fullShare x4 ∗ (∃ d, owns (c : Thread nD τ) arg5 fullShare d) ∗ owns (c : Thread nD τ) arg6 fullShare x6
        ∗ (iprop(tbPt c f2 ∗ owns (c : Thread nD τ) arg3 fullShare x3 ∗ owns (c : Thread nD τ) arg4 fullShare x4 ∗ owns (c : Thread nD τ) arg5 fullShare (liveOut (i 1).val (word c i f2) x3 x4)
          ∗ (∃ x6', ⌜∀ y : S16384x128.Idx, (y 0).val < 512 * ((i 1).val + 1) → x6' y = col x4 y⌝ ∗ owns (c : Thread nD τ) arg6 fullShare x6')) -∗ K ⟨⟩))
      ⊢ wp frame (wpE (defs₀ (F := F)) Variants.none c none) E (cc0_semdedup i tbM htbM arg3 harg3 arg4 harg4 arg5 harg5 arg6 harg6) K := by
  simp only [cc0_semdedup_eq_skeleton, k0_part1_eq_skeleton, k0_part2_eq_skeleton, k0_part3_eq_skeleton, k0_part4_eq_skeleton]; unfold cc0_semdedup_skel
  unfold owns
  iintro ⟨H2, ⟨%f3, %hf3, H3⟩, ⟨%f4, %hf4, H4⟩, ⟨%d5, %f5, -, H5⟩, ⟨%f6, %hf6, H6⟩, Hk⟩
  subst hf3 hf4 hf6
  sl_exec
  sl_step
  have hq := lt32 i
  have e0 : k0_off2 i 0#32 = ![0, 4 * (i 1).val, 0] := off2_eq i 0
  have e1 : k0_off2 i 1#32 = ![0, 4 * (i 1).val + 1, 0] := off2_eq i 1
  have e2 : k0_off2 i 2#32 = ![0, 4 * (i 1).val + 2, 0] := off2_eq i 2
  have e3 : k0_off2 i 3#32 = ![0, 4 * (i 1).val + 3, 0] := off2_eq i 3
  have s0 := ld_scales (arg4.view.read (Elt F) f4) _ (k0_off2_inb i 0) (4 * (i 1).val) (by omega) e0
  have r0 : View.readAt (Elt F) arg4.view (Rect.unit (s := S1x128x128) (k0_off2 i 0#32) S1x1x128.size (k0_off2_inb i 0)).toLoadRect f4 = srow (arg4.view.read (Elt F) f4) (4 * (i 1).val) := s0
  have s1 := ld_scales (arg4.view.read (Elt F) f4) _ (k0_off2_inb i 1) (4 * (i 1).val + 1) (by omega) e1
  have r1 : View.readAt (Elt F) arg4.view (Rect.unit (s := S1x128x128) (k0_off2 i 1#32) S1x1x128.size (k0_off2_inb i 1)).toLoadRect f4 = srow (arg4.view.read (Elt F) f4) (4 * (i 1).val + 1) := s1
  have s2 := ld_scales (arg4.view.read (Elt F) f4) _ (k0_off2_inb i 2) (4 * (i 1).val + 2) (by omega) e2
  have r2 : View.readAt (Elt F) arg4.view (Rect.unit (s := S1x128x128) (k0_off2 i 2#32) S1x1x128.size (k0_off2_inb i 2)).toLoadRect f4 = srow (arg4.view.read (Elt F) f4) (4 * (i 1).val + 2) := s2
  have s3 := ld_scales (arg4.view.read (Elt F) f4) _ (k0_off2_inb i 3) (4 * (i 1).val + 3) (by omega) e3
  have r3 : View.readAt (Elt F) arg4.view (Rect.unit (s := S1x128x128) (k0_off2 i 3#32) S1x1x128.size (k0_off2_inb i 3)).toLoadRect f4 = srow (arg4.view.read (Elt F) f4) (4 * (i 1).val + 3) := s3
  have hnew : ∀ (f : arg6.view.ty.Contents (Elt F)) (y : S16384x128.Idx), 512 * (i 1).val ≤ (y 0).val → (y 0).val < 512 * ((i 1).val + 1) →
      arg6.view.read (Elt F) (arg6.view.writes (Elt F) f (live.sl.H6_4 c i arg4 f4)) y = col (arg4.view.read (Elt F) f4) y := fun f y h1 h2 =>
    read_col_new arg6.view f (arg4.view.read (Elt F) f4) i _ _ _ _ (congrArg k0_pay3 s0) (congrArg k0_pay4 s1) (congrArg k0_pay5 s2) (congrArg k0_pay6 s3) y h1 h2
  have hall : ∀ (y : S16384x128.Idx), (y 0).val < 512 * ((i 1).val + 1) →
      arg6.view.read (Elt F) (arg6.view.writes (Elt F) f6 (live.sl.H6_4 c i arg4 f4)) y = col (arg4.view.read (Elt F) f4) y := fun y h2 => by
    by_cases h1 : 512 * (i 1).val ≤ (y 0).val
    · exact hnew f6 y h1 h2
    · exact (read_col_old arg6.view f6 i _ _ _ _ y (by omega)).trans (h6 y (by omega))
  have c70 : live.sl.v70 c i arg4 arg6 f4 = cblk (arg4.view.read (Elt F) f4) (i 1).val :=
    ld_col (arg6.view.read (Elt F) (arg6.view.writes (Elt F) arg6.view.junk (live.sl.H6_4 c i arg4 f4))) (arg4.view.read (Elt F) f4) _ (k0_off5_inb i) (i 1).val hq (off5_eq i) (hnew _)
  have a0 : k0_pay7 (View.readAt (Elt F) arg3.view (Rect.unit (s := S1x16384x512) (k0_off4 i) S1x512x512.size (k0_off4_inb i)).toLoadRect f3)
      (View.readAt (Elt F) arg3.view (Rect.unit (s := S1x16384x512) (k0_off4 i) S1x512x512.size (k0_off4_inb i)).toLoadRect f3) (live.sl.v70 c i arg4 arg6 f4)
      = accN (arg3.view.read (Elt F) f3) (arg4.view.read (Elt F) f4) (i 1).val 0 := by
    have hc := ld_codes (arg3.view.read (Elt F) f3) _ (k0_off4_inb i) (i 1).val hq (off4_eq i)
    rw [c70]
    exact congrArg (fun z => k0_pay7 z z (cblk (arg4.view.read (Elt F) f4) (i 1).val)) hc
  have hbest : live.sl.r_1 c i arg3 harg3 arg4 harg4 arg5 harg5 arg6 harg6 f3 f4 f6 = best (arg3.view.read (Elt F) f3) (arg4.view.read (Elt F) f4) (i 1).val := by
    unfold live.sl.r_1 best
    rw [a0, show Scf.trips (k0_t1_loop i).lb (k0_t1_loop i).ub (k0_t1_loop i).st = (i 1).val from trips1 i,
      show Scf.trips (k0_t2_loop i).lb (k0_t2_loop i).ub (k0_t2_loop i).st = 0 from trips2 i, st_k0_t2_zero,
      st_eq _ _ _ i _ _ _ _ _ _ _ _ _ _ _ _ _ _ (arg4.view.read (Elt F) f4) (fun y h => hall y (by omega)) _ le_rfl]
  iapply Hk
  isplitl [H2]
  · iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    funext y
    refine (read_out arg5.view f5 _ _ _ _ y).trans ?_
    unfold live.sl.r_2 live.sl.r_3 live.sl.r_4
    rw [hbest]
    unfold liveOut
    rw [r0, r1, r2, r3]
    rfl
  iexists _; isplitr
  swap
  · iexists _; isplitr
    swap; · iexact H6
    ipureintro; rfl
  ipureintro; exact hall

set_option maxHeartbeats 4000000 in
/-- A grid point past the cluster: zeros, and the column buffer as it was. -/
theorem dead (c : Dev nD) (E : Set ℕ) (i : grid0.Coords) (f2 : TbBuf (F := F) c)
    (arg3 : Memref sig .tc .vmem S1x16384x512 .fp8e4m3) (harg3 : arg3.IsWhole) (arg4 : Memref sig .tc .vmem S1x128x128 .f32) (harg4 : arg4.IsWhole) (arg5 : Memref sig .tc .vmem S1x4x128 .f32) (harg5 : arg5.IsWhole) (arg6 : Memref sig .tc .vmem S16384x128 .f32) (harg6 : arg6.IsWhole)
    (x3 : Vec F S1x16384x512 .fp8e4m3) (x4 : Vec F S1x128x128 .f32) (x6 : Vec F S16384x128 .f32)
    (hl : k0_cond1 i (word c i f2) ≠ 1#1) (hd : k0_cond2 i (word c i f2) = 1#1)
    (K : PUnit → sProp 𝕄) :
    iprop(tbPt c f2 ∗ owns (c : Thread nD τ) arg3 fullShare x3 ∗ owns (c : Thread nD τ) arg4 fullShare x4 ∗ (∃ d, owns (c : Thread nD τ) arg5 fullShare d) ∗ owns (c : Thread nD τ) arg6 fullShare x6
        ∗ (iprop(tbPt c f2 ∗ owns (c : Thread nD τ) arg3 fullShare x3 ∗ owns (c : Thread nD τ) arg4 fullShare x4 ∗ owns (c : Thread nD τ) arg5 fullShare (k0_pay2 (F := F))
          ∗ owns (c : Thread nD τ) arg6 fullShare x6) -∗ K ⟨⟩))
      ⊢ wp frame (wpE (defs₀ (F := F)) Variants.none c none) E (cc0_semdedup i tbM htbM arg3 harg3 arg4 harg4 arg5 harg5 arg6 harg6) K := by
  simp only [cc0_semdedup_eq_skeleton, k0_part1_eq_skeleton, k0_part2_eq_skeleton, k0_part3_eq_skeleton, k0_part4_eq_skeleton]; unfold cc0_semdedup_skel
  unfold owns
  iintro ⟨H2, ⟨%f3, %hf3, H3⟩, ⟨%f4, %hf4, H4⟩, ⟨%d5, %f5, -, H5⟩, ⟨%f6, %hf6, H6⟩, Hk⟩
  subst hf3 hf4 hf6
  sl_exec
  sl_step
  iapply Hk
  isplitl [H2]
  · iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    funext y
    exact View.read_writes_cons_unit_of_mem arg5.view f5 _ _ _ y y rfl fun a => by
      match a with
      | ⟨0, _⟩ => exact (Nat.zero_add _).symm
      | ⟨1, _⟩ => exact (Nat.zero_add _).symm
      | ⟨2, _⟩ => exact (Nat.zero_add _).symm
  iexists f6; isplitr
  · ipureintro; rfl
  iexact H6

/-- The body at any grid point. -/
theorem sound_kernel (c : Dev nD) (E : Set ℕ) (i : grid0.Coords) (f2 : TbBuf (F := F) c)
    (arg3 : Memref sig .tc .vmem S1x16384x512 .fp8e4m3) (harg3 : arg3.IsWhole) (arg4 : Memref sig .tc .vmem S1x128x128 .f32) (harg4 : arg4.IsWhole) (arg5 : Memref sig .tc .vmem S1x4x128 .f32) (harg5 : arg5.IsWhole) (arg6 : Memref sig .tc .vmem S16384x128 .f32) (harg6 : arg6.IsWhole)
    (x3 : Vec F S1x16384x512 .fp8e4m3) (x4 : Vec F S1x128x128 .f32) (x6 : Vec F S16384x128 .f32)
    (h6 : k0_cond1 i (word c i f2) = 1#1 → ∀ y : S16384x128.Idx, (y 0).val < 512 * (i 1).val → x6 y = col x4 y)
    (K : PUnit → sProp 𝕄) :
    iprop(tbPt c f2 ∗ owns (c : Thread nD τ) arg3 fullShare x3 ∗ owns (c : Thread nD τ) arg4 fullShare x4 ∗ (∃ d, owns (c : Thread nD τ) arg5 fullShare d) ∗ owns (c : Thread nD τ) arg6 fullShare x6
        ∗ (iprop(tbPt c f2 ∗ owns (c : Thread nD τ) arg3 fullShare x3 ∗ owns (c : Thread nD τ) arg4 fullShare x4 ∗ owns (c : Thread nD τ) arg5 fullShare (outBlk i (word c i f2) x3 x4)
          ∗ (∃ x6', ⌜k0_cond1 i (word c i f2) = 1#1 → ∀ y : S16384x128.Idx, (y 0).val < 512 * ((i 1).val + 1) → x6' y = col x4 y⌝ ∗ owns (c : Thread nD τ) arg6 fullShare x6')) -∗ K ⟨⟩))
      ⊢ wp frame (wpE (defs₀ (F := F)) Variants.none c none) E (cc0_semdedup i tbM htbM arg3 harg3 arg4 harg4 arg5 harg5 arg6 harg6) K := by
  by_cases hl : k0_cond1 i (word c i f2) = 1#1
  · have hd : k0_cond2 i (word c i f2) ≠ 1#1 := fun h => (cond2_iff i _).mp h hl
    rw [show outBlk i (word c i f2) x3 x4 = liveOut (i 1).val (word c i f2) x3 x4 from if_pos hl]
    iintro ⟨H2, H3, H4, H5, H6, Hk⟩
    iapply (live c E i f2 arg3 harg3 arg4 harg4 arg5 harg5 arg6 harg6 x3 x4 x6 hl hd (h6 hl) K)
    isplitl [H2]; · iexact H2
    isplitl [H3]; · iexact H3
    isplitl [H4]; · iexact H4
    isplitl [H5]; · iexact H5
    isplitl [H6]; · iexact H6
    iintro ⟨H2, H3, H4, H5, ⟨%x6', %hx, H6⟩⟩
    iapply Hk
    isplitl [H2]; · iexact H2
    isplitl [H3]; · iexact H3
    isplitl [H4]; · iexact H4
    isplitl [H5]; · iexact H5
    iexists x6'; isplitr
    · ipureintro; exact fun _ => hx
    iexact H6
  · have hd : k0_cond2 i (word c i f2) = 1#1 := (cond2_iff i _).mpr hl
    rw [show outBlk i (word c i f2) x3 x4 = k0_pay2 from if_neg hl]
    iintro ⟨H2, H3, H4, H5, H6, Hk⟩
    iapply (dead c E i f2 arg3 harg3 arg4 harg4 arg5 harg5 arg6 harg6 x3 x4 x6 hl hd K)
    isplitl [H2]; · iexact H2
    isplitl [H3]; · iexact H3
    isplitl [H4]; · iexact H4
    isplitl [H5]; · iexact H5
    isplitl [H6]; · iexact H6
    iintro ⟨H2, H3, H4, H5, H6⟩
    iapply Hk
    isplitl [H2]; · iexact H2
    isplitl [H3]; · iexact H3
    isplitl [H4]; · iexact H4
    isplitl [H5]; · iexact H5
    iexists x6; isplitr
    · ipureintro; exact fun h => absurd h hl
    iexact H6

end Cert.Kernel.Hand
-- ==== Proof.RunKernel.lean ====
/-
  The run of the kernel: what every grid point finds and leaves, the whole program's run, and that its arguments end unchanged.
-/
module

public import proofs.«01_k».proof.Proof.BodyKernel
public import proofs.«01_k».proof.Proof.Gen.Kernel.Launch
public import Idealize.ShloMosaic.Lib.Pipeline.FrameSuffix
public import Idealize.ShloMosaic.Lib.Pipeline.FrameBody
public import Idealize.ShloMosaic.Lib.Pipeline.ValueKit
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents when the region is entered -/

/-- Every buffer of core `c` when the region is entered: as launched, after the host reshape of the scales. -/
def V₀ (c : Dev nD) : Valuation τ sig (Elt F) :=
  StableHlo.after ([hostOps0 (F := F)] : List (List (HloOp τ sig (Elt F)))).flatten (fun b => m (c, b))
/-- The same, by reference. -/
abbrev V (c : Dev nD) (b : Ref sig .tc) : Buf (Elt F) ((c : Thread nD τ).loc b) := V₀ m c (Proc.devRef .tc b)

/-- The call finds the codes as they were given. -/
theorem V_main_arg0 (c : Dev nD) : V m c main_arg0 = m ((c : Thread nD τ).loc main_arg0) := by
  unfold V V₀
  exact StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
/-- The call finds the scales as they were given. -/
theorem V_main_arg1 (c : Dev nD) : V m c main_arg1 = m ((c : Thread nD τ).loc main_arg1) := by
  unfold V V₀
  exact StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
/-- The call finds the sizes as they were given. -/
theorem V_main_arg2 (c : Dev nD) : V m c main_arg2 = m ((c : Thread nD τ).loc main_arg2) := by
  unfold V V₀
  exact StableHlo.after_of_forall_not_mem (b := Proc.devRef .tc main_arg2) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-! ## The table of sizes -/

/-- The table's contents when the region is entered. -/
def tbl : pre0.Contents (Elt F) := fun j => V m (0 : Dev nD) (pre0.ref j)
/-- The prefetched table is the array of sizes. -/
theorem V_pre (c : Dev nD) (j : Fin 1) : V m c (pre0.ref j) = tbl m j := by
  obtain rfl : c = 0 := Subsingleton.elim _ _; rfl
/-- They satisfy the pipeline's side condition, which is `True`. -/
abbrev adm : (pcfg0 (F := F)).Adm := ⟨tbl m, trivial⟩
abbrev cfgM : Pipeline.Cfg sig Λ₀ := cfg0 (adm m)
/-- The assertion about the tables is the one about the sizes. -/
theorem PhiT_eq (c : Dev nD) : (Pipeline.ΦT pre0 (tbl m) c : sProp 𝕄) = iprop(tbPt c (tbl m 0)) := by
  unfold Pipeline.ΦT Pipeline.prefHeld
  rw [show (Finset.univ : Finset (Fin 1)) = {(0 : Fin 1)} from by decide, bigSep_singleton]
  rfl

/-- The size of the cluster of point `i`. -/
abbrev wd (c : Dev nD) (i : grid0.Coords) : Elt F .i32 := word c i (tbl m 0)

/-! ## The windows' blocks -/

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Before a point, the first window holds its block of codes. -/
theorem before_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Before a point, the second window holds its block of scales. -/
theorem before_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The body writes its output block at every point: one of its two conditions holds. -/
theorem idle2 (i : grid0.Coords) : (cfgM m).idle 2 i = false := by
  show (!(k0_cond1 i ((tbl m).atD 0 (k0_off1 i)) == 1#1) && !(k0_cond2 i ((tbl m).atD 0 (k0_off1 i)) == 1#1)) = false
  have h := cond2_iff i ((tbl m).atD 0 (k0_off1 i))
  by_cases h1 : k0_cond1 i ((tbl m).atD 0 (k0_off1 i)) = 1#1
  · simp [h1]
  · simp [h.2 h1]

/-! ## The grid -/

/-- Point t is block t mod 32 of cluster t / 32. -/
theorem coords_eq : ∀ t : Fin grid0.N, (grid0.coords t 0).val = t.val / 32 ∧ (grid0.coords t 1).val = t.val % 32 := by
  decide +kernel

/-! ## The proof data -/

attribute [local irreducible] outBlk col

/-- What is known of the column buffer before point `n`: where the point computes, its rows before the point's block are the
    column form of its cluster's scales. -/
def Good (c : Dev nD) (n : ℕ) (x6 : Vec F S16384x128 .f32) : Prop :=
  ∀ h : n < (cfgM m).N, k0_cond1 (grid0.coords ⟨n, h⟩) (wd m c (grid0.coords ⟨n, h⟩)) = 1#1 →
    ∀ y : S16384x128.Idx, (y 0).val < 512 * (grid0.coords ⟨n, h⟩ 1).val → x6 y = col (iblk m c 1 ⟨n, h⟩) y

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => outBlk (grid0.coords t) (wd m c (grid0.coords t)) (iblk m c 0 t) (iblk m c 1 t)
  Φ t := iprop((∃ x6 : Vec F S16384x128 .f32, ⌜Good m c t.val x6⌝ ∗ owns (c : Thread nD τ) (Memref.whole cc0_scratch0) fullShare x6)
    ∗ (∃ r, prngReg c r) ∗ tbPt c (tbl m 0))
  q _ := fullShare
  owed _ := 0

/-- The arrays behind the windows are those the call finds. -/
theorem A_eq (c : Dev nD) (w : Fin (cfgM m).W) : (dats m 0 c).A w = V m c (Pipeline.arrRef spec0 w) := by
  dsimp only [dats]
/-- A point leaves the codes in their window. -/
theorem after_0 (c : Dev nD) (t : Fin (cfgM m).N) : (dats m 0 c).after 0 t = iblk m c 0 t := rfl
/-- A point leaves the scales in their window. -/
theorem after_1 (c : Dev nD) (t : Fin (cfgM m).N) : (dats m 0 c).after 1 t = iblk m c 1 t := rfl
/-- After a point, the output window holds what the point computes. -/
theorem after_2 (c : Dev nD) (t : Fin (cfgM m).N) : (dats m 0 c).after 2 t
    = outBlk (grid0.coords t) (wd m c (grid0.coords t)) (iblk m c 0 t) (iblk m c 1 t) := rfl
/-- Before a point, the window of codes holds its block. -/
theorem before_0 (c : Dev nD) (t : Fin (cfgM m).N) (d) : (dats m 0 c).before 0 t d = iblk m c 0 t :=
  before_0_of m (dats m 0 c) (A_eq m c 0) (after_0 m c) t d
/-- Before a point, the window of scales holds its block. -/
theorem before_1 (c : Dev nD) (t : Fin (cfgM m).N) (d) : (dats m 0 c).before 1 t d = iblk m c 1 t :=
  before_1_of m (dats m 0 c) (A_eq m c 1) (after_1 m c) t d
/-- What is carried into point t: the sizes, and the scratch with the columns written so far. -/
theorem Phi_eq (c : Dev nD) (t : Fin ((cfgM m).N + 1)) : (dats m 0 c).Φ t
    = iprop((∃ x6 : Vec F S16384x128 .f32, ⌜Good m c t.val x6⌝ ∗ owns (c : Thread nD τ) (Memref.whole cc0_scratch0) fullShare x6)
    ∗ (∃ r, prngReg c r) ∗ tbPt c (tbl m 0)) := by dsimp only [dats]

/-! ## From one point to the next -/

/-- The table word depends on the cluster only. -/
theorem wd_congr (c : Dev nD) (i i' : grid0.Coords) (h : (i 0).val = (i' 0).val) : wd m c i = wd m c i' := by
  have e : k0_off1 i = k0_off1 i' := by
    unfold k0_off1; rw [h]
  have : ∀ (o o' : Fin 1 → ℕ) (ho ho'), o = o' →
      tbM.view.readAt (Elt F) (Rect.unit (s := S6) o S1.size ho) (tbl m 0) (Shape.Idx.first (numel1_S1.symm ▸ Nat.one_pos))
        = tbM.view.readAt (Elt F) (Rect.unit (s := S6) o' S1.size ho') (tbl m 0) (Shape.Idx.first (numel1_S1.symm ▸ Nat.one_pos)) := by
    rintro o _ ho ho' rfl; rfl
  exact this _ _ _ _ e

/-- There are six clusters. -/
theorem c0_lt (i : grid0.Coords) : (i 0).val < 6 := (i 0).isLt
/-- A cluster has 32 blocks. -/
theorem c1_lt (i : grid0.Coords) : (i 1).val < 32 := (i 1).isLt

/-- A point's codes are those of its cluster. -/
theorem tr0 (i : grid0.Coords) : cc0_transform_0 i = ![(i 0).val, 0, 0] := by
  have := c0_lt i
  unfold cc0_transform_0
  simp only [BitVec.toNat_ofNat]
  rw [Nat.mod_eq_of_lt (by omega)]
/-- A point's scales are those of its cluster. -/
theorem tr1 (i : grid0.Coords) : cc0_transform_1 i = ![(i 0).val, 0, 0] := by
  have := c0_lt i
  unfold cc0_transform_1
  simp only [BitVec.toNat_ofNat]
  rw [Nat.mod_eq_of_lt (by omega)]
/-- A point's output block is block q of cluster b, numbered 32 b + q. -/
theorem tr2 (i : grid0.Coords) : cc0_transform_2 i = ![32 * (i 0).val + (i 1).val, 0, 0] := by
  have := c0_lt i
  have := c1_lt i
  unfold cc0_transform_2 Scalar.muli Scalar.addi
  show ![(BitVec.ofNat 32 (i 0).val * 32#32 + BitVec.ofNat 32 (i 1).val).toNat, 0, 0] = _
  simp only [BitVec.toNat_ofNat, BitVec.toNat_add, BitVec.toNat_mul]
  congr 1
  omega

/-- The window of codes at point t is the cluster's. -/
theorem index0 (t : Fin (cfgM m).N) : ((cfgM m).win 0).index t = ![(grid0.coords t 0).val, 0, 0] := tr0 _
/-- The window of scales at point t is the cluster's. -/
theorem index1 (t : Fin (cfgM m).N) : ((cfgM m).win 1).index t = ![(grid0.coords t 0).val, 0, 0] := tr1 _
/-- The output window at point t is block t. -/
theorem index2 (t : Fin (cfgM m).N) : ((cfgM m).win 2).index t = ![t.val, 0, 0] := by
  refine (tr2 _).trans ?_
  obtain ⟨h0, h1⟩ := coords_eq t
  rw [h0, h1]
  congr 1
  omega

/-- The block of codes at a point is its cluster's. -/
theorem iblk0_at (c : Dev nD) (t : Fin (cfgM m).N) (r : Fin 16384) (d : Fin 512) :
    iblk m c 0 t (ix3 0 r d) = V m c main_arg0 (ix3 (⟨(grid0.coords t 0).val, c0_lt _⟩ : Fin 6) r d) := by
  unfold iblk
  show V m c main_arg0 _ = _
  congr 1
  funext a
  apply Fin.ext
  blk_simp
  rw [index0]
  match a with
  | ⟨0, _⟩ => show (grid0.coords t 0).val * 1 + 0 = (grid0.coords t 0).val; omega
  | ⟨1, _⟩ => show 0 * 16384 + r.val = r.val; omega
  | ⟨2, _⟩ => show 0 * 512 + d.val = d.val; omega

/-- The block of scales at a point is its cluster's. -/
theorem iblk1_at (c : Dev nD) (t : Fin (cfgM m).N) (r : Fin 128) (d : Fin 128) :
    iblk m c 1 t (ix3 0 r d) = V m c main_v0 (ix3 (⟨(grid0.coords t 0).val, c0_lt _⟩ : Fin 6) r d) := by
  unfold iblk
  show V m c main_v0 _ = _
  congr 1
  funext a
  apply Fin.ext
  blk_simp
  rw [index1]
  match a with
  | ⟨0, _⟩ => show (grid0.coords t 0).val * 1 + 0 = (grid0.coords t 0).val; omega
  | ⟨1, _⟩ => show 0 * 128 + r.val = r.val; omega
  | ⟨2, _⟩ => show 0 * 128 + d.val = d.val; omega

/-- The block of scales depends on the cluster only. -/
theorem iblk1_congr (c : Dev nD) (t t' : Fin (cfgM m).N) (h : (grid0.coords t 0).val = (grid0.coords t' 0).val) :
    iblk m c 1 t = iblk m c 1 t' := by
  have key : ∀ (f g : Vec F S1x128x128 .f32), (∀ r d : Fin 128, f (ix3 0 r d) = g (ix3 0 r d)) → f = g := by
    intro f g hfg
    funext y
    have e : y = ix3 (0 : Fin 1) (y 1) (y 2) := by
      funext a
      match a with
      | ⟨0, _⟩ => exact Subsingleton.elim (α := Fin 1) _ _
      | ⟨1, _⟩ => rfl
      | ⟨2, _⟩ => rfl
    rw [e]; exact hfg _ _
  refine key (iblk m c 1 t) (iblk m c 1 t') fun r d => ?_
  rw [iblk1_at, iblk1_at, Fin.ext (a := (⟨(grid0.coords t 0).val, c0_lt _⟩ : Fin 6)) (b := ⟨(grid0.coords t' 0).val, c0_lt _⟩) h]

/-- What the body leaves of the column buffer is what the next point needs. -/
theorem good_step (c : Dev nD) (t : Fin (cfgM m).N) (x6 : Vec F S16384x128 .f32)
    (h : k0_cond1 (grid0.coords t) (wd m c (grid0.coords t)) = 1#1 →
      ∀ y : S16384x128.Idx, (y 0).val < 512 * ((grid0.coords t 1).val + 1) → x6 y = col (iblk m c 1 t) y) :
    Good m c (t.val + 1) x6 := by
  intro hn hl y hy
  obtain ⟨a0, a1⟩ := coords_eq t
  obtain ⟨b0, b1⟩ := coords_eq ⟨t.val + 1, hn⟩
  have hN : t.val + 1 < 192 := lt_of_lt_of_eq hn N_0
  rw [b1] at hy
  simp only at hy b0
  by_cases hz : (t.val + 1) % 32 = 0
  · rw [hz] at hy; omega
  have e0 : (grid0.coords t 0).val = (grid0.coords ⟨t.val + 1, hn⟩ 0).val := by rw [a0, b0]; omega
  rw [← iblk1_congr m c t ⟨t.val + 1, hn⟩ e0]
  refine h ?_ y ?_
  · rw [cond1_iff] at hl ⊢
    rw [← wd_congr m c _ _ e0, b1] at hl
    rw [a1]
    simp only at hl
    refine lt_trans ?_ hl
    omega
  · rw [a1]; omega

/-- What the body needs of the column buffer at a point. -/
theorem good_here (c : Dev nD) (t : Fin (cfgM m).N) (x6 : Vec F S16384x128 .f32) (hx : Good m c t.val x6) :
    k0_cond1 (grid0.coords t) (word c (grid0.coords t) (tbl m 0)) = 1#1 →
      ∀ y : S16384x128.Idx, (y 0).val < 512 * (grid0.coords t 1).val → x6 y = col (iblk m c 1 t) y :=
  fun hl y hy => hx t.isLt hl y hy

/-! ## The body obligation -/

abbrev st_0 (t : Fin (cfgM m).N) := ((cfgM m).win 0).stage ((cfgM m).slots t 0)
abbrev st_1 (t : Fin (cfgM m).N) := ((cfgM m).win 1).stage ((cfgM m).slots t 1)
abbrev st_2 (t : Fin (cfgM m).N) := ((cfgM m).win 2).stage ((cfgM m).slots t 2)

/-- The kernel body at point `t`. -/
abbrev bodyAt (t : Fin (cfgM m).N) : Prog (TpuEff nD τ sig (Elt F) Λ₀ .tc) PUnit :=
  cc0_semdedup (grid0.coords t) (Memref.whole main_arg2) (Memref.isWhole_whole _)
    (st_0 m t) (hstage0_0 (((cfgM m).slots t 0).cast nbuf0_0)) (st_1 m t) (hstage0_1 (((cfgM m).slots t 1).cast nbuf0_1))
    (st_2 m t) (hstage0_2 (((cfgM m).slots t 2).cast nbuf0_2)) (Memref.whole cc0_scratch0) (Memref.isWhole_whole _)

def bodyPre (c : Dev nD) (t : Fin (cfgM m).N) : sProp 𝕄 :=
  iprop((dats m 0 c).Φ t.castSucc ∗ (dats m 0 c).owesAt () t.castSucc
    ∗ (∃ d, owns (c : Thread nD τ) (st_0 m t) fullShare ((dats m 0 c).before 0 t d))
    ∗ (∃ d, owns (c : Thread nD τ) (st_1 m t) fullShare ((dats m 0 c).before 1 t d))
    ∗ (∃ d, owns (c : Thread nD τ) (st_2 m t) fullShare ((dats m 0 c).before 2 t d)))

def bodyPost (c : Dev nD) (t : Fin (cfgM m).N) : sProp 𝕄 :=
  iprop((dats m 0 c).Φ t.succ ∗ (dats m 0 c).owesAt () t.succ
    ∗ owns (c : Thread nD τ) (st_0 m t) fullShare ((dats m 0 c).after 0 t)
    ∗ owns (c : Thread nD τ) (st_1 m t) fullShare ((dats m 0 c).after 1 t)
    ∗ owns (c : Thread nD τ) (st_2 m t) fullShare ((dats m 0 c).after 2 t))

/-- The body's triple at a point, on the windows' staging buffers. -/
theorem sound_at (c : Dev nD) (t : Fin (cfgM m).N) (x6 : Vec F S16384x128 .f32) (hx : Good m c t.val x6) (K : PUnit → sProp 𝕄) :
    iprop(tbPt c (tbl m 0) ∗ owns (c : Thread nD τ) (st_0 m t) fullShare (iblk m c 0 t) ∗ owns (c : Thread nD τ) (st_1 m t) fullShare (iblk m c 1 t)
      ∗ (∃ d, owns (c : Thread nD τ) (st_2 m t) fullShare d) ∗ owns (c : Thread nD τ) (Memref.whole cc0_scratch0) fullShare x6
      ∗ (iprop(tbPt c (tbl m 0) ∗ owns (c : Thread nD τ) (st_0 m t) fullShare (iblk m c 0 t) ∗ owns (c : Thread nD τ) (st_1 m t) fullShare (iblk m c 1 t)
        ∗ owns (c : Thread nD τ) (st_2 m t) fullShare (outBlk (grid0.coords t) (wd m c (grid0.coords t)) (iblk m c 0 t) (iblk m c 1 t))
        ∗ (∃ x6' : Vec F S16384x128 .f32, ⌜k0_cond1 (grid0.coords t) (wd m c (grid0.coords t)) = 1#1 →
              ∀ y : S16384x128.Idx, (y 0).val < 512 * ((grid0.coords t 1).val + 1) → x6' y = col (iblk m c 1 t) y⌝
            ∗ owns (c : Thread nD τ) (Memref.whole cc0_scratch0) fullShare x6')) -∗ K ⟨⟩))
    ⊢ wp frame (wpE (defs₀ (F := F)) Variants.none c none) Set.univ (bodyAt m t) K :=
  sound_kernel c Set.univ (grid0.coords t) (tbl m 0) (st_0 m t) (hstage0_0 (((cfgM m).slots t 0).cast nbuf0_0))
    (st_1 m t) (hstage0_1 (((cfgM m).slots t 1).cast nbuf0_1)) (st_2 m t) (hstage0_2 (((cfgM m).slots t 2).cast nbuf0_2))
    (Memref.whole cc0_scratch0) (Memref.isWhole_whole _) (iblk m c 0 t) (iblk m c 1 t) x6 (good_here m c t x6 hx) K

/-- The body at any point, from what the pipeline hands it to what the proof data say it leaves. -/
theorem sound_body (c : Dev nD) (t : Fin (cfgM m).N) :
    bodyPre m c t ⊢ wp frame (wpE (defs₀ (F := F)) Variants.none c none) Set.univ (bodyAt m t) (fun _ => bodyPost m c t) := by
  unfold bodyPre
  simp only [before_0, before_1, Phi_eq, Fin.val_castSucc]
  iintro ⟨⟨⟨%x6, %hx, H6⟩, Hr, Ht⟩, Ho, ⟨%d0, H0⟩, ⟨%d1, H1⟩, ⟨%d2, H2⟩⟩
  iapply (sound_at m c t x6 hx (fun _ => bodyPost m c t))
  isplitl [Ht]; · iexact Ht
  isplitl [H0]; · iexact H0
  isplitl [H1]; · iexact H1
  isplitl [H2]; · iexists _; iexact H2
  isplitl [H6]; · iexact H6
  iintro ⟨Ht, H0, H1, H2, ⟨%x6', %hx', H6⟩⟩
  unfold bodyPost
  simp only [Phi_eq, after_0, after_1, after_2, Fin.val_succ]
  rw [show (dats m 0 c).owesAt () t.succ = (dats m 0 c).owesAt () t.castSucc from rfl]
  isplitl [H6 Hr Ht]
  · isplitl [H6]
    · iexists x6'
      isplitr
      · ipureintro; exact good_step m c t x6' hx'
      iexact H6
    isplitl [Hr]; · iexact Hr
    iexact Ht
  isplitl [Ho]; · iexact Ho
  isplitl [H0]; · iexact H0
  isplitl [H1]; · iexact H1
  iexact H2

/-- The body's definition at point t is the kernel's body there. -/
theorem defs₀_row (t : Fin (cfgM m).N) :
    defs₀ (F := F) .tc (cfgM m).body ((cfgM m).bodyArgs t ((cfgM m).slots t)) = bodyAt m t := by
  unfold defs₀; rw [Defs.onTc_tc]; rfl

/-- Each point's body meets its specification. -/
theorem body_obligation (c : Dev nD) : BodyObligation (dats (F := F) m 0 c) (defs₀ (F := F)) Variants.none () Set.univ := fun t => by
  rw [bigSep_W0, bigSep_W0, defs₀_row, idle2]
  exact triple_restated (sound_body m c t) rfl .rfl fun _ => .rfl

/-! ## The run -/

/-- The host program is the reshape, the call and the reshape back. -/
theorem hmain : Pipeline.HMainPK (Ix := Unit) (Name := ℕ) (U := UR sig nD τ) (Lvl := ℕ) pcfgs 0 defs₀ Variants.none m (main (F := F))
    (fun c b => V₀ m c (Proc.devRef .tc b)) (fun _ => Pipeline.chain (([hostOps1 (F := F)] : List (List (HloOp τ sig (Elt F)))).map StableHlo.seq)) :=
  Pipeline.hmainP_around (pcs := pcfgs) (p := 0) (defs₀ := defs₀) (𝒱₀ := Variants.none) m (main (F := F)) [hostOps0] [hostOps1]
    hostOps0_sub rfl (fun c => main_chain c)

/-- The trailing reshape does not touch the table. -/
theorem tail_pre : ∀ k, Proc.devRef (τ := τ) .tc (pre0.ref k)
    ∉ (StableHlo.reshape main_v1 main_v2 (rfl : (.f32 : EltTy) = .f32) shapeCasts_S192x4x128_S6x16384 : HloOp τ sig (Elt F)).bufs := by
  intro k
  obtain rfl : k = 0 := Subsingleton.elim _ _
  rw [StableHlo.reshape_bufs]
  simp only [Finset.mem_insert, Finset.mem_singleton, not_or]
  exact ⟨StableHlo.devRef_ne_of_ne (by decide), StableHlo.devRef_ne_of_ne (by decide)⟩

/-- The array of scales as given is none of the arrays behind the windows. -/
theorem rest_arg1 : main_arg1 ∈ Pipeline.restRefs sig spec0 := by decide
/-- The array of sizes is none of the arrays behind the windows. -/
theorem rest_arg2 : main_arg2 ∈ Pipeline.restRefs sig spec0 := by decide

/-- What the launch gives is what the first point needs. -/
theorem phi_in (c : Dev nD) : iprop(Pipeline.ΦA spec0 c ∗ Pipeline.ΦT pre0 (tbl m) c) ⊢ (dats m 0 c).Φ 0 := by
  rw [Phi_eq, PhiT_eq]
  unfold Pipeline.ΦA
  rw [scopedRest0_eq]
  iintro ⟨⟨⟨%f, H⟩, Hr⟩, Ht⟩
  isplitl [H]
  · iexists f
    isplitr
    · ipureintro
      intro h hl y hy
      exfalso
      have e := (coords_eq ⟨0, h⟩).2
      have hy' : (y 0).val < 512 * (grid0.coords ⟨0, h⟩ 1).val := hy
      rw [e] at hy'
      simp at hy'
    rw [owns_whole (c : Thread nD τ)]
    iexact H
  isplitl [Hr]; · iexact Hr
  iexact Ht

/-- What the last point leaves is what the launch takes back. -/
theorem phi_out (c : Dev nD) : (dats m 0 c).Φ (Fin.last (cfgM m).N) ⊢ Pipeline.ΦA spec0 c := by
  rw [Phi_eq]
  unfold Pipeline.ΦA
  rw [scopedRest0_eq]
  simp only [owns_whole (c : Thread nD τ)]
  iintro ⟨⟨%x6, -, H⟩, Hr, -⟩
  isplitl [H]
  · iexists x6
    iexact H
  iexact Hr

set_option backward.isDefEq.respectTransparency.types false in
set_option maxHeartbeats 1600000 in
/-- The program runs to the end from any memory: every array at what the proof data say, every other buffer at the contents
    after the trailing reshape, every counter at zero. -/
theorem run_main_quiescent : θ_run defs (onTc (τ := τ) (main (F := F))) (s₀ m ρ)
    (fun r => (Pipeline.FramePost (Pipeline.pin pcfgs fun _ => adm m) (dats m) 0
      (Pipeline.afterTail pcfgs (fun _ => adm m) (dats m) 0 (V₀ m) [hostOps1])) r ∧ r.2.sem = fun _ => 0) :=
  Pipeline.θ_run_frameP_around_track (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V₀ := V₀ m) (opss := [hostOps1])
    (hsub := fun ops hops op hop => by
      obtain rfl := List.mem_singleton.mp hops
      obtain rfl := List.mem_singleton.mp hop
      exact Pipeline.sub_tailRefs pre0 spec0 _ (StableHlo.reshape_bufs_sub ..) tail_pre)
    (hfresh := fun ops hops op hop => by
      obtain rfl := List.mem_singleton.mp hops
      obtain rfl := List.mem_singleton.mp hop
      rfl)
    (hkeep := fun ops hops op hop => by
      obtain rfl := List.mem_singleton.mp hops
      obtain rfl := List.mem_singleton.mp hop
      intro w
      rw [StableHlo.reshape_writes, Finset.mem_singleton]
      exact StableHlo.devRef_ne_of_ne ((by decide : ∀ w, Pipeline.arrRef spec0 w ≠ main_v2) w))
    (hmain := hmain m) (hA := A_eq m) (hpf := V_pre m) (hin := phi_in m) (hout := phi_out m)

/-- A buffer that is neither a window's array nor written by the trailing reshape ends at its contents at the region's entry. -/
theorem tail_arg (b : Ref sig .tc) (hb : b ≠ main_v2) (hw : ∀ w, Pipeline.arrRef spec0 w ≠ b) (c : Dev nD) :
    Pipeline.afterTail pcfgs (fun _ => adm m) (dats m) 0 (V₀ m) [hostOps1] c b = V m c b := by
  unfold Pipeline.afterTail
  rw [StableHlo.after_of_forall_not_mem (b := Proc.devRef .tc b) _ _ (List.forall_iff_forall_mem.mp (by
    simp only [hostOps1, List.flatten_cons, List.flatten_nil, List.append_nil, List.cons_append,
      List.nil_append, List.Forall, StableHlo.reshape_writes, Finset.mem_singleton]
    repeat' apply And.intro
    all_goals exact StableHlo.devRef_ne_of_ne hb)),
    Pipeline.withArrays_of_ne _ c (V₀ m c) _ b hw]

/-- The arguments end unchanged. -/
theorem args_of (r : PUnit × MemSt nD τ sig (Elt F))
    (h : Pipeline.FramePost (Pipeline.pin pcfgs fun _ => adm m) (dats m) 0
      (Pipeline.afterTail pcfgs (fun _ => adm m) (dats m) 0 (V₀ m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 0).trans (((dats m 0 c).arrAt_in 0 rfl _).trans ((A_eq m c 0).trans (V_main_arg0 m c))),
   ((h c).2 main_arg1 rest_arg1).trans ((tail_arg m main_arg1 (by decide) (by decide) c).trans (V_main_arg1 m c)),
   ((h c).2 main_arg2 rest_arg2).trans ((tail_arg m main_arg2 (by decide) (by decide) c).trans (V_main_arg2 m c))⟩

/-- The frame: the program runs to the end, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => args_of m r h.1 c, h.2⟩) (run_main_quiescent m ρ)

end Cert.Kernel.Hand

end
-- ==== Proof.SpecKernelIdeal.lean ====
/-
  What one grid point of the kernel leaves, as plain functions of the blocks it finds: the codes of its cluster, the
  scales of its cluster and the cluster's size.
-/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Pointwise
public import Idealize.ShloMosaic.Lib.WritesUnit
public import Idealize.ShloMosaic.Lib.WordCmp

@[expose] public section

set_option maxRecDepth 16384

noncomputable section

namespace Cert.KernelIdeal.Hand

open Idealize.ShloMosaic Idealize.ShloMosaic.TcCoe Idealize.SL.Sem
open Cert.KernelIdeal.Gen
open Idealize.ShloMosaic.WordCmp

variable {F : FTy → Type} [FloatOps F]

/-- The scales of a cluster laid out as a column of 16384 rows, every lane alike. -/
def col (x4 : Vec F S1x128x128 .f32) : Vec F S16384x128 .f32 :=
  fun y => x4 (ix3 (0 : Fin 1) (⟨(y 0).val / 128, by have := (y 0).isLt; change (y 0).val < 16384 at this; omega⟩ : Fin 128)
    (⟨(y 0).val % 128, Nat.mod_lt _ (by decide)⟩ : Fin 128))

/-- The `k`-th block of 512 rows of the codes. -/
def kblk (x3 : Vec F S1x16384x512 .fp8e4m3) (k : ℕ) : Vec F S1x512x512 .fp8e4m3 :=
  fun y => x3 (ix3 (0 : Fin 1) (⟨(512 * k + (y 1).val) % 16384, Nat.mod_lt _ (by decide)⟩ : Fin 16384) (y 2))

/-- The `k`-th block of 512 rows of the column of scales. -/
def cblk (x4 : Vec F S1x128x128 .f32) (k : ℕ) : Vec F S512x128 .f32 :=
  fun y => col x4 (ix2 (⟨(512 * k + (y 0).val) % 16384, Nat.mod_lt _ (by decide)⟩ : Fin 16384) (y 1))

/-- Row `r` of the scales as they lie in memory (128 positions a row). -/
def srow (x4 : Vec F S1x128x128 .f32) (r : ℕ) : Vec F S1x1x128 .f32 :=
  fun y => x4 (ix3 (0 : Fin 1) (⟨r % 128, Nat.mod_lt _ (by decide)⟩ : Fin 128) (y 2))

/-- The running maxima of query block `q` after its own key block and the first `n` key blocks. -/
def accN (x3 : Vec F S1x16384x512 .fp8e4m3) (x4 : Vec F S1x128x128 .f32) (q : ℕ) : ℕ → FVec F S8x512 .f32
  | 0 => k0_pay7 (kblk x3 q) (kblk x3 q) (cblk x4 q)
  | n + 1 => k0_pay8 (accN x3 x4 q n) (kblk x3 n) (kblk x3 q) (cblk x4 n)

/-- The 512 maxima of query block `q`. -/
def best (x3 : Vec F S1x16384x512 .fp8e4m3) (x4 : Vec F S1x128x128 .f32) (q : ℕ) : FVec F S1x512 .f32 :=
  k0_pay10 (accN x3 x4 q q)

/-- The first position of query block `q`, as the kernel computes it. -/
def base (q : ℕ) : BitVec 32 := Scalar.muli (BitVec.ofNat 32 q) 512#32

/-- The four rows a grid point with positions inside the cluster leaves. -/
def liveOut (q : ℕ) (v1 : Elt F .i32) (x3 : Vec F S1x16384x512 .fp8e4m3) (x4 : Vec F S1x128x128 .f32) : Vec F S1x4x128 .f32 :=
  fun y =>
    if (y 1).val = 0 then k0_pay11 v1 (base q) (best x3 x4 q) (srow x4 (4 * q)) (ix3 (0 : Fin 1) (0 : Fin 1) (y 2))
    else if (y 1).val = 1 then k0_pay13 (k0_pay12 v1 (base q) (best x3 x4 q) (srow x4 (4 * q + 1))) (ix3 (0 : Fin 1) (0 : Fin 1) (y 2))
    else if (y 1).val = 2 then k0_pay14 v1 (base q) (best x3 x4 q) (srow x4 (4 * q + 2)) (ix3 (0 : Fin 1) (0 : Fin 1) (y 2))
    else k0_pay1 (k0_pay15 (best x3 x4 q) (srow x4 (4 * q + 3))) (k0_pay16 v1 (base q)) k0_pay17 (ix3 (0 : Fin 1) (0 : Fin 1) (y 2))

/-- What a grid point leaves: the four rows when the cluster has positions there, zeros otherwise. -/
def outBlk (i : grid0.Coords) (v1 : Elt F .i32) (x3 : Vec F S1x16384x512 .fp8e4m3) (x4 : Vec F S1x128x128 .f32) : Vec F S1x4x128 .f32 :=
  if k0_cond1 i v1 = 1#1 then liveOut (i 1).val v1 x3 x4 else k0_pay2

/-! ## The offsets the kernel computes, in closed form -/

/-- Where the r-th row of a block of scales starts. -/
theorem off2_eq (i : grid0.Coords) (r : Fin 4) : k0_off2 i (BitVec.ofNat 32 r.val) = ![0, 4 * (i 1).val + r.val, 0] := by
  have h : ∀ (q : Fin 32) (r : Fin 4), (Scalar.indexCast (Scalar.addi (Scalar.muli (BitVec.ofNat 32 q.val) 4#32) (BitVec.ofNat 32 r.val))).toNat = 4 * q.val + r.val := by decide +kernel
  exact congrArg (fun n => ![0, n, 0]) (h (i 1) r)

/-- Where the r-th group of a block's column entries starts. -/
theorem off3_eq (i : grid0.Coords) (r : Fin 4) : k0_off3 i (BitVec.ofNat 32 (128 * r.val)) = ![512 * (i 1).val + 128 * r.val, 0] := by
  have h : ∀ (q : Fin 32) (r : Fin 4), (Scalar.indexCast (Scalar.addi (Scalar.muli (BitVec.ofNat 32 q.val) 512#32) (BitVec.ofNat 32 (128 * r.val)))).toNat = 512 * q.val + 128 * r.val := by decide +kernel
  exact congrArg (fun n => ![n, 0]) (h (i 1) r)

/-- The start of block q, as the kernel computes it, is 512 q. -/
theorem blk_off (q : Fin 32) : (Scalar.indexCast (Scalar.muli (BitVec.ofNat 32 q.val) 512#32)).toNat = 512 * q.val := by
  revert q; decide +kernel

/-- Where the codes of the diagonal block start (as candidates). -/
theorem off4_eq (i : grid0.Coords) : k0_off4 i = ![0, 512 * (i 1).val, 0] := congrArg (fun n => ![0, n, 0]) (blk_off (i 1))
/-- Where the codes of the point's own block start (as queries). -/
theorem off7_eq (i : grid0.Coords) : k0_off7 i = ![0, 512 * (i 1).val, 0] := congrArg (fun n => ![0, n, 0]) (blk_off (i 1))
/-- Where the column entries of the diagonal block start. -/
theorem off5_eq (i : grid0.Coords) : k0_off5 i = ![512 * (i 1).val, 0] := congrArg (fun n => ![n, 0]) (blk_off (i 1))

/-- The loop from 0 to q runs q times. -/
theorem trips1_aux (q : Fin 32) : Scf.trips 0#32 (Scalar.addi 0#32 (Scalar.muli (Scalar.divsi (Scalar.subi (BitVec.ofNat 32 q.val) 0#32) 1#32) 1#32)) 1#32 = q.val := by
  revert q; decide +kernel
/-- The remainder loop runs no times. -/
theorem trips2_aux (q : Fin 32) : Scf.trips (Scalar.addi 0#32 (Scalar.muli (Scalar.divsi (Scalar.subi (BitVec.ofNat 32 q.val) 0#32) 1#32) 1#32)) (Scalar.addi 0#32 (Scalar.subi (BitVec.ofNat 32 q.val) 0#32)) 1#32 = 0 := by
  revert q; decide +kernel

/-- The loop over earlier blocks runs once for each block before q. -/
theorem trips1 (i : grid0.Coords) : (k0_t1_loop i).trips = (i 1).val := trips1_aux (i 1)
/-- The remainder loop of a point runs no times. -/
theorem trips2 (i : grid0.Coords) : (k0_t2_loop i).trips = 0 := trips2_aux (i 1)

/-- The start of block k, as the loop computes it, is 512 k. -/
theorem trip_off (k : Fin 32) : (Scalar.indexCast (Scalar.muli (Scf.iv 0#32 1#32 k.val) 512#32)).toNat = 512 * k.val := by
  revert k; decide +kernel

/-- A trip number is a block before the point's own. -/
theorem trip_lt (i : grid0.Coords) (k : Fin (k0_t1_loop i).trips) : k.val < (i 1).val :=
  lt_of_lt_of_eq k.isLt (trips1 i)

/-- A cluster has 32 blocks. -/
theorem lt32 (i : grid0.Coords) : (i 1).val < 32 := (i 1).isLt

/-- Where trip k's candidate codes start. -/
theorem off6_eq (i : grid0.Coords) (k : Fin (k0_t1_loop i).trips) : k0_off6 i k = ![0, 512 * k.val, 0] :=
  congrArg (fun n => ![0, n, 0]) (trip_off ⟨k.val, (trip_lt i k).trans (lt32 i)⟩)
/-- Where trip k's column entries start. -/
theorem off8_eq (i : grid0.Coords) (k : Fin (k0_t1_loop i).trips) : k0_off8 i k = ![512 * k.val, 0] :=
  congrArg (fun n => ![n, 0]) (trip_off ⟨k.val, (trip_lt i k).trans (lt32 i)⟩)

/-! ## The two branch conditions -/

/-- The first position of block q, read as a signed integer, is 512 q. -/
theorem base_toInt (q : Fin 32) : (base q.val).toInt = ((512 * q.val : ℕ) : ℤ) := by
  revert q; decide +kernel

/-- A bit widened to a word is nonzero just where the bit is set. -/
theorem ext_ne (b : BitVec 1) : Scalar.cmpi .ne (Scalar.extui b : BitVec 32) 0#32 = b := by
  revert b; decide

/-- The first branch is taken exactly where the cluster has positions in the query block. -/
theorem cond1_iff (i : grid0.Coords) (v1 : BitVec 32) : k0_cond1 i v1 = 1#1 ↔ ((512 * (i 1).val : ℕ) : ℤ) < v1.toInt := by
  have e : k0_cond1 i v1 = IntOp.cmpi .slt (base (i 1).val) v1 := ext_ne _
  rw [e, cmpi_slt_eq, ofBool_decide_eq_one_iff]
  exact iff_of_eq (congrArg (· < v1.toInt) (base_toInt (i 1)))

/-- The second branch is taken exactly where the first is not. -/
theorem cond2_iff (i : grid0.Coords) (v1 : BitVec 32) : k0_cond2 i v1 = 1#1 ↔ k0_cond1 i v1 ≠ 1#1 := by
  have e : k0_cond2 i v1 = IntOp.cmpi .sge (base (i 1).val) v1 := ext_ne _
  rw [Ne, cond1_iff, e, cmpi_sge_eq, ofBool_decide_eq_one_iff, not_lt]
  exact iff_of_eq (congrArg (v1.toInt ≤ ·) (base_toInt (i 1)))

/-! ## The loads, in closed form -/

/-- A load of 512 rows of the codes at row `512 k` reads block `k`. -/
theorem ld_codes (x3 : Vec F S1x16384x512 .fp8e4m3) (off : Fin 3 → ℕ) (inb : ∀ a, off a + S1x512x512.size a ≤ S1x16384x512.size a)
    (k : ℕ) (hk : k < 32) (hoff : off = ![0, 512 * k, 0]) :
    (View.ld x3 (Rect.unit (s := S1x16384x512) off S1x512x512.size inb) : Vec F S1x512x512 .fp8e4m3) = kblk x3 k := by
  subst hoff
  funext y
  have h1 : (y 1).val < 512 := (y 1).isLt
  have h0 : (y 0).val < 1 := (y 0).isLt
  unfold kblk
  refine congrArg x3 (funext fun a => Fin.ext ?_)
  match a with
  | ⟨0, _⟩ => show 0 + 1 * (y 0).val = 0; omega
  | ⟨1, _⟩ => show 512 * k + 1 * (y 1).val = (512 * k + (y 1).val) % 16384; omega
  | ⟨2, _⟩ => show 0 + 1 * (y 2).val = (y 2).val; omega

/-- A load of one row of scales reads that row. -/
theorem ld_scales (x4 : Vec F S1x128x128 .f32) (off : Fin 3 → ℕ) (inb : ∀ a, off a + S1x1x128.size a ≤ S1x128x128.size a)
    (r : ℕ) (hr : r < 128) (hoff : off = ![0, r, 0]) :
    (View.ld x4 (Rect.unit (s := S1x128x128) off S1x1x128.size inb) : Vec F S1x1x128 .f32) = srow x4 r := by
  subst hoff
  funext y
  have h1 : (y 1).val < 1 := (y 1).isLt
  have h0 : (y 0).val < 1 := (y 0).isLt
  unfold srow
  refine congrArg x4 (funext fun a => Fin.ext ?_)
  match a with
  | ⟨0, _⟩ => show 0 + 1 * (y 0).val = 0; omega
  | ⟨1, _⟩ => show r + 1 * (y 1).val = r % 128; omega
  | ⟨2, _⟩ => show 0 + 1 * (y 2).val = (y 2).val; omega

/-- A load of 512 rows of the column buffer at row `512 k` reads block `k` of the column of scales, where the buffer
    holds it. -/
theorem ld_col (X : Vec F S16384x128 .f32) (x4 : Vec F S1x128x128 .f32) (off : Fin 2 → ℕ) (inb : ∀ a, off a + S512x128.size a ≤ S16384x128.size a)
    (k : ℕ) (hk : k < 32) (hoff : off = ![512 * k, 0])
    (hX : ∀ y : S16384x128.Idx, 512 * k ≤ (y 0).val → (y 0).val < 512 * (k + 1) → X y = col x4 y) :
    (View.ld X (Rect.unit (s := S16384x128) off S512x128.size inb) : Vec F S512x128 .f32) = cblk x4 k := by
  subst hoff
  funext y
  have h0 : (y 0).val < 512 := (y 0).isLt
  refine (hX _ (show 512 * k ≤ 512 * k + 1 * (y 0).val by omega) (show 512 * k + 1 * (y 0).val < 512 * (k + 1) by omega)).trans ?_
  unfold cblk
  refine congrArg (col x4) (funext fun a => Fin.ext ?_)
  match a with
  | ⟨0, _⟩ => show 512 * k + 1 * (y 0).val = (512 * k + (y 0).val) % 16384; omega
  | ⟨1, _⟩ => show 0 + 1 * (y 1).val = (y 1).val; omega

/-- One row of scales transposed into 128 rows, every lane alike. -/
theorem pay3_at (v : Vec F S1x1x128 .f32) (a b : Fin 128) : k0_pay3 v (ix2 a b) = v (ix3 (0 : Fin 1) (0 : Fin 1) a) := by
  pointwise [k0_pay3]
/-- The second group of column entries repeats its row of scales in every lane. -/
theorem pay4_at (v : Vec F S1x1x128 .f32) (a b : Fin 128) : k0_pay4 v (ix2 a b) = v (ix3 (0 : Fin 1) (0 : Fin 1) a) := by
  pointwise [k0_pay4]
/-- The third group of column entries repeats its row of scales in every lane. -/
theorem pay5_at (v : Vec F S1x1x128 .f32) (a b : Fin 128) : k0_pay5 v (ix2 a b) = v (ix3 (0 : Fin 1) (0 : Fin 1) a) := by
  pointwise [k0_pay5]
/-- The fourth group of column entries repeats its row of scales in every lane. -/
theorem pay6_at (v : Vec F S1x1x128 .f32) (a b : Fin 128) : k0_pay6 v (ix2 a b) = v (ix3 (0 : Fin 1) (0 : Fin 1) a) := by
  pointwise [k0_pay6]

/-- What the four stores into the column buffer leave in their 512 rows: the column of scales. -/
theorem read_col_new {κ : Kind} {sp : Space} (v : View sig κ sp S16384x128 .f32) (f : v.ty.Contents (Elt F)) (x4 : Vec F S1x128x128 .f32)
    (i : grid0.Coords)
    (w0 w1 w2 w3 : Vec F S128x128 .f32)
    (h0 : w0 = k0_pay3 (srow x4 (4 * (i 1).val))) (h1 : w1 = k0_pay4 (srow x4 (4 * (i 1).val + 1)))
    (h2 : w2 = k0_pay5 (srow x4 (4 * (i 1).val + 2))) (h3 : w3 = k0_pay6 (srow x4 (4 * (i 1).val + 3)))
    (y : S16384x128.Idx) (hlo : 512 * (i 1).val ≤ (y 0).val) (hhi : (y 0).val < 512 * ((i 1).val + 1)) :
    v.read (Elt F) (v.writes (Elt F) f [
      ⟨Rect.unit (s := S16384x128) (k0_off3 i 384#32) S128x128.size (k0_off3_inb i 3), w3⟩,
      ⟨Rect.unit (s := S16384x128) (k0_off3 i 256#32) S128x128.size (k0_off3_inb i 2), w2⟩,
      ⟨Rect.unit (s := S16384x128) (k0_off3 i 128#32) S128x128.size (k0_off3_inb i 1), w1⟩,
      ⟨Rect.unit (s := S16384x128) (k0_off3 i 0#32) S128x128.size (k0_off3_inb i 0), w0⟩]) y = col x4 y := by
  have hq := lt32 i
  have e0 : k0_off3 i 0#32 = ![512 * (i 1).val + 0, 0] := off3_eq i 0
  have e1 : k0_off3 i 128#32 = ![512 * (i 1).val + 128, 0] := off3_eq i 1
  have e2 : k0_off3 i 256#32 = ![512 * (i 1).val + 256, 0] := off3_eq i 2
  have e3 : k0_off3 i 384#32 = ![512 * (i 1).val + 384, 0] := off3_eq i 3
  have key : ∀ r : ℕ, r < 4 → 512 * (i 1).val + 128 * r ≤ (y 0).val → ∀ h : (y 0).val - (512 * (i 1).val + 128 * r) < 128,
      srow x4 (4 * (i 1).val + r) (ix3 (0 : Fin 1) (0 : Fin 1) (⟨(y 0).val - (512 * (i 1).val + 128 * r), h⟩ : Fin 128)) = col x4 y := by
    intro r hr hl h
    unfold srow col
    refine congrArg x4 (funext fun a => Fin.ext ?_)
    match a with
    | ⟨0, _⟩ => rfl
    | ⟨1, _⟩ => show (4 * (i 1).val + r) % 128 = (y 0).val / 128; omega
    | ⟨2, _⟩ => show (y 0).val - (512 * (i 1).val + 128 * r) = (y 0).val % 128; omega
  by_cases c3 : 512 * (i 1).val + 384 ≤ (y 0).val
  · refine (View.read_writes_cons_rows_of_mem v f _ _ _ y (ix2 (⟨(y 0).val - (512 * (i 1).val + 384), by omega⟩ : Fin 128) (y 1)) e3
      (by show (y 0).val = 512 * (i 1).val + 384 + ((y 0).val - (512 * (i 1).val + 384)); omega) rfl).trans ?_
    subst h3; exact (pay6_at _ _ _).trans (key 3 (by omega) c3 _)
  rw [View.read_writes_cons_rows_of_not_mem v f _ _ _ y e3 rfl (Or.inl (by omega))]
  by_cases c2 : 512 * (i 1).val + 256 ≤ (y 0).val
  · refine (View.read_writes_cons_rows_of_mem v f _ _ _ y (ix2 (⟨(y 0).val - (512 * (i 1).val + 256), by omega⟩ : Fin 128) (y 1)) e2
      (by show (y 0).val = 512 * (i 1).val + 256 + ((y 0).val - (512 * (i 1).val + 256)); omega) rfl).trans ?_
    subst h2; exact (pay5_at _ _ _).trans (key 2 (by omega) c2 _)
  rw [View.read_writes_cons_rows_of_not_mem v f _ _ _ y e2 rfl (Or.inl (by omega))]
  by_cases c1 : 512 * (i 1).val + 128 ≤ (y 0).val
  · refine (View.read_writes_cons_rows_of_mem v f _ _ _ y (ix2 (⟨(y 0).val - (512 * (i 1).val + 128), by omega⟩ : Fin 128) (y 1)) e1
      (by show (y 0).val = 512 * (i 1).val + 128 + ((y 0).val - (512 * (i 1).val + 128)); omega) rfl).trans ?_
    subst h1; exact (pay4_at _ _ _).trans (key 1 (by omega) c1 _)
  rw [View.read_writes_cons_rows_of_not_mem v f _ _ _ y e1 rfl (Or.inl (by omega))]
  refine (View.read_writes_cons_rows_of_mem v f _ _ _ y (ix2 (⟨(y 0).val - (512 * (i 1).val + 0), by omega⟩ : Fin 128) (y 1)) e0
      (by show (y 0).val = 512 * (i 1).val + 0 + ((y 0).val - (512 * (i 1).val + 0)); omega) rfl).trans ?_
  subst h0; exact (pay3_at _ _ _).trans (key 0 (by omega) hlo _)

/-- The four stores into the column buffer leave the rows before theirs as they were. -/
theorem read_col_old {κ : Kind} {sp : Space} (v : View sig κ sp S16384x128 .f32) (f : v.ty.Contents (Elt F))
    (i : grid0.Coords) (w0 w1 w2 w3 : Vec F S128x128 .f32)
    (y : S16384x128.Idx) (hlo : (y 0).val < 512 * (i 1).val) :
    v.read (Elt F) (v.writes (Elt F) f [
      ⟨Rect.unit (s := S16384x128) (k0_off3 i 384#32) S128x128.size (k0_off3_inb i 3), w3⟩,
      ⟨Rect.unit (s := S16384x128) (k0_off3 i 256#32) S128x128.size (k0_off3_inb i 2), w2⟩,
      ⟨Rect.unit (s := S16384x128) (k0_off3 i 128#32) S128x128.size (k0_off3_inb i 1), w1⟩,
      ⟨Rect.unit (s := S16384x128) (k0_off3 i 0#32) S128x128.size (k0_off3_inb i 0), w0⟩]) y = v.read (Elt F) f y := by
  have e0 : k0_off3 i 0#32 = ![512 * (i 1).val + 0, 0] := off3_eq i 0
  have e1 : k0_off3 i 128#32 = ![512 * (i 1).val + 128, 0] := off3_eq i 1
  have e2 : k0_off3 i 256#32 = ![512 * (i 1).val + 256, 0] := off3_eq i 2
  have e3 : k0_off3 i 384#32 = ![512 * (i 1).val + 384, 0] := off3_eq i 3
  rw [View.read_writes_cons_rows_of_not_mem v f _ _ _ y e3 rfl (Or.inl (by omega)),
    View.read_writes_cons_rows_of_not_mem v f _ _ _ y e2 rfl (Or.inl (by omega)),
    View.read_writes_cons_rows_of_not_mem v f _ _ _ y e1 rfl (Or.inl (by omega)),
    View.read_writes_cons_rows_of_not_mem v f _ _ _ y e0 rfl (Or.inl (by omega))]
  rfl

/-- What the four row stores into the output block leave. -/
theorem read_out {κ : Kind} {sp : Space} (v : View sig κ sp S1x4x128 .f32) (f : v.ty.Contents (Elt F))
    (w0 w1 w2 w3 : Vec F S1x1x128 .f32) (y : S1x4x128.Idx) :
    v.read (Elt F) (v.writes (Elt F) f [
      ⟨Rect.unit (s := S1x4x128) ![0, 3, 0] S1x1x128.size inb_S1x4x128_S1x1x128_0_3_0, w3⟩,
      ⟨Rect.unit (s := S1x4x128) ![0, 2, 0] S1x1x128.size inb_S1x4x128_S1x1x128_0_2_0, w2⟩,
      ⟨Rect.unit (s := S1x4x128) ![0, 1, 0] S1x1x128.size inb_S1x4x128_S1x1x128_0_1_0, w1⟩,
      ⟨Rect.unit (s := S1x4x128) ![0, 0, 0] S1x1x128.size inb_S1x4x128_S1x1x128_0_0_0, w0⟩]) y
    = if (y 1).val = 0 then w0 (ix3 (0 : Fin 1) (0 : Fin 1) (y 2)) else if (y 1).val = 1 then w1 (ix3 (0 : Fin 1) (0 : Fin 1) (y 2))
      else if (y 1).val = 2 then w2 (ix3 (0 : Fin 1) (0 : Fin 1) (y 2)) else w3 (ix3 (0 : Fin 1) (0 : Fin 1) (y 2)) := by
  have h1 : (y 1).val < 4 := (y 1).isLt
  have h0 : (y 0).val < 1 := (y 0).isLt
  have hx : ∀ r : ℕ, (y 1).val = r → ∀ a, (y a).val = (![0, r, 0] : Fin 3 → ℕ) a + ((ix3 (0 : Fin 1) (0 : Fin 1) (y 2) : S1x1x128.Idx) a).val := by
    intro r hr a
    match a with
    | ⟨0, _⟩ => show (y 0).val = 0 + 0; omega
    | ⟨1, _⟩ => show (y 1).val = r + 0; omega
    | ⟨2, _⟩ => show (y 2).val = 0 + (y 2).val; omega
  have hn : ∀ r : ℕ, (y 1).val ≠ r → (y 1).val < (![0, r, 0] : Fin 3 → ℕ) 1 ∨ (![0, r, 0] : Fin 3 → ℕ) 1 + S1x1x128.size 1 ≤ (y 1).val := by
    intro r hr
    show (y 1).val < r ∨ r + 1 ≤ (y 1).val
    omega
  by_cases c3 : (y 1).val = 3
  · rw [if_neg (by omega), if_neg (by omega), if_neg (by omega)]
    exact View.read_writes_cons_unit_of_mem v f _ _ _ y (ix3 (0 : Fin 1) (0 : Fin 1) (y 2)) rfl (hx 3 c3)
  rw [View.read_writes_cons_unit_of_not_mem v f _ _ _ y rfl 1 (hn 3 c3)]
  by_cases c2 : (y 1).val = 2
  · rw [if_neg (by omega), if_neg (by omega), if_pos c2]
    exact View.read_writes_cons_unit_of_mem v f _ _ _ y (ix3 (0 : Fin 1) (0 : Fin 1) (y 2)) rfl (hx 2 c2)
  rw [View.read_writes_cons_unit_of_not_mem v f _ _ _ y rfl 1 (hn 2 c2)]
  by_cases c1 : (y 1).val = 1
  · rw [if_neg (by omega), if_pos c1]
    exact View.read_writes_cons_unit_of_mem v f _ _ _ y (ix3 (0 : Fin 1) (0 : Fin 1) (y 2)) rfl (hx 1 c1)
  rw [View.read_writes_cons_unit_of_not_mem v f _ _ _ y rfl 1 (hn 1 c1)]
  have c0 : (y 1).val = 0 := by omega
  rw [if_pos c0]
  exact View.read_writes_cons_unit_of_mem v f _ _ _ y (ix3 (0 : Fin 1) (0 : Fin 1) (y 2)) rfl (hx 0 c0)

end Cert.KernelIdeal.Hand
-- ==== Proof.BodyKernelIdeal.lean ====
/-
  The body of the kernel at one grid point: from the blocks it finds to the output block and the column buffer it leaves.
-/
module

public import proofs.«01_k».proof.Proof.SpecKernelIdeal
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

abbrev tbM : Memref sig .tc .smem S6 .i32 := Memref.whole main_arg2
abbrev htbM : tbM.IsWhole := Memref.isWhole_whole _
abbrev TbBuf (c : Dev nD) : Type := Buf (Elt F) (tbM.view.loc (c : Thread nD τ))
abbrev tbPt (c : Dev nD) (f : TbBuf (F := F) c) : sProp 𝕄 :=
  tbM.view.loc (c : Thread nD τ) ↦{fullShare.right} f

/-- The size of the point's cluster, as the body reads it from the table. -/
abbrev word (c : Dev nD) (i : grid0.Coords) (f2 : TbBuf (F := F) c) : Elt F .i32 :=
  tbM.view.readAt (Elt F) (Rect.unit (s := S6) (k0_off1 i) S1.size (k0_off1_inb i)) f2 (Shape.Idx.first (numel1_S1.symm ▸ Nat.one_pos))

/-- One trip of the loop over the earlier key blocks. -/
theorem tripR_eq (𝒱 : Variants) (c : Dev nD) (bd : Option 𝒱.V) (i : grid0.Coords) (arg2 : Memref sig .tc .smem S6 .i32) (harg2 : arg2.IsWhole) (arg3 : Memref sig .tc .vmem S1x16384x512 .fp8e4m3) (harg3 : arg3.IsWhole) (arg4 : Memref sig .tc .vmem S1x128x128 .f32) (harg4 : arg4.IsWhole) (arg5 : Memref sig .tc .vmem S1x4x128 .f32) (harg5 : arg5.IsWhole) (arg6 : Memref sig .tc .vmem S16384x128 .f32) (harg6 : arg6.IsWhole) (arg1 : BitVec 32) (v3 : BitVec 32) (X_arg3 : BufTy.Contents (Elt F) arg3.view.ty) (X_arg6 : BufTy.Contents (Elt F) arg6.view.ty) (k : Fin (k0_t1_loop i).trips) (acc : FVec F S8x512 .f32) :
   tripR_k0_t1 (F := F) 𝒱 c bd i arg2 harg2 arg3 harg3 arg4 harg4 arg5 harg5 arg6 harg6 arg1 v3 X_arg3 X_arg6 k acc
     = k0_pay8 acc (View.ld (arg3.view.read (Elt F) X_arg3) (Rect.unit (s := S1x16384x512) (k0_off6 i k) S1x512x512.size (k0_off6_inb i k)))
        (View.ld (arg3.view.read (Elt F) X_arg3) (Rect.unit (s := S1x16384x512) (k0_off7 i) S1x512x512.size (k0_off7_inb i)))
        (View.ld (arg6.view.read (Elt F) X_arg6) (Rect.unit (s := S16384x128) (k0_off8 i k) S512x128.size (k0_off8_inb i k))) := by
  unfold tripR_k0_t1 trip_k0_t1
  rfl

/-- The loop over the earlier key blocks carries the running maxima. -/
theorem st_eq (𝒱 : Variants) (c : Dev nD) (bd : Option 𝒱.V) (i : grid0.Coords) (arg2 : Memref sig .tc .smem S6 .i32) (harg2 : arg2.IsWhole) (arg3 : Memref sig .tc .vmem S1x16384x512 .fp8e4m3) (harg3 : arg3.IsWhole) (arg4 : Memref sig .tc .vmem S1x128x128 .f32) (harg4 : arg4.IsWhole) (arg5 : Memref sig .tc .vmem S1x4x128 .f32) (harg5 : arg5.IsWhole) (arg6 : Memref sig .tc .vmem S16384x128 .f32) (harg6 : arg6.IsWhole) (arg1 : BitVec 32) (v3 : BitVec 32) (X_arg3 : BufTy.Contents (Elt F) arg3.view.ty) (X_arg6 : BufTy.Contents (Elt F) arg6.view.ty)
    (x4 : Vec F S1x128x128 .f32)
    (hX : ∀ y : S16384x128.Idx, (y 0).val < 512 * (i 1).val → arg6.view.read (Elt F) X_arg6 y = col x4 y)
    (n : ℕ) (hn : n ≤ (i 1).val) :
    st_k0_t1 (F := F) 𝒱 c bd i arg2 harg2 arg3 harg3 arg4 harg4 arg5 harg5 arg6 harg6 arg1 v3 X_arg3 X_arg6 (accN (arg3.view.read (Elt F) X_arg3) x4 (i 1).val 0) n
      = accN (arg3.view.read (Elt F) X_arg3) x4 (i 1).val n := by
  induction n with
  | zero => exact st_k0_t1_zero ..
  | succ n ih =>
    have hq := lt32 i
    have hk : n < (k0_t1_loop i).trips := lt_of_lt_of_eq (show n < (i 1).val by omega) (trips1 i).symm
    refine (st_k0_t1_succ 𝒱 c bd i arg2 harg2 arg3 harg3 arg4 harg4 arg5 harg5 arg6 harg6 arg1 v3 X_arg3 X_arg6 _ ⟨n, hk⟩).trans ?_
    rw [tripR_eq, ld_codes _ _ _ n (by omega) (off6_eq i ⟨n, hk⟩), ld_codes _ _ _ (i 1).val hq (off7_eq i),
      ld_col _ x4 _ _ n (by omega) (off8_eq i ⟨n, hk⟩) (fun y _ hy => hX y (by omega)), ih (by omega)]
    rfl

set_option maxHeartbeats 4000000 in
/-- A grid point with positions inside the cluster: the four rows, and the column buffer 512 rows further. -/
theorem live (c : Dev nD) (E : Set ℕ) (i : grid0.Coords) (f2 : TbBuf (F := F) c)
    (arg3 : Memref sig .tc .vmem S1x16384x512 .fp8e4m3) (harg3 : arg3.IsWhole) (arg4 : Memref sig .tc .vmem S1x128x128 .f32) (harg4 : arg4.IsWhole) (arg5 : Memref sig .tc .vmem S1x4x128 .f32) (harg5 : arg5.IsWhole) (arg6 : Memref sig .tc .vmem S16384x128 .f32) (harg6 : arg6.IsWhole)
    (x3 : Vec F S1x16384x512 .fp8e4m3) (x4 : Vec F S1x128x128 .f32) (x6 : Vec F S16384x128 .f32)
    (hl : k0_cond1 i (word c i f2) = 1#1) (hd : k0_cond2 i (word c i f2) ≠ 1#1)
    (h6 : ∀ y : S16384x128.Idx, (y 0).val < 512 * (i 1).val → x6 y = col x4 y)
    (K : PUnit → sProp 𝕄) :
    iprop(tbPt c f2 ∗ owns (c : Thread nD τ) arg3 fullShare x3 ∗ owns (c : Thread nD τ) arg4 fullShare x4 ∗ (∃ d, owns (c : Thread nD τ) arg5 fullShare d) ∗ owns (c : Thread nD τ) arg6 fullShare x6
        ∗ (iprop(tbPt c f2 ∗ owns (c : Thread nD τ) arg3 fullShare x3 ∗ owns (c : Thread nD τ) arg4 fullShare x4 ∗ owns (c : Thread nD τ) arg5 fullShare (liveOut (i 1).val (word c i f2) x3 x4)
          ∗ (∃ x6', ⌜∀ y : S16384x128.Idx, (y 0).val < 512 * ((i 1).val + 1) → x6' y = col x4 y⌝ ∗ owns (c : Thread nD τ) arg6 fullShare x6')) -∗ K ⟨⟩))
      ⊢ wp frame (wpE (defs₀ (F := F)) Variants.none c none) E (cc0_semdedup i tbM htbM arg3 harg3 arg4 harg4 arg5 harg5 arg6 harg6) K := by
  simp only [cc0_semdedup_eq_skeleton, k0_part1_eq_skeleton, k0_part2_eq_skeleton, k0_part3_eq_skeleton, k0_part4_eq_skeleton]; unfold cc0_semdedup_skel
  unfold owns
  iintro ⟨H2, ⟨%f3, %hf3, H3⟩, ⟨%f4, %hf4, H4⟩, ⟨%d5, %f5, -, H5⟩, ⟨%f6, %hf6, H6⟩, Hk⟩
  subst hf3 hf4 hf6
  sl_exec
  sl_step
  have hq := lt32 i
  have e0 : k0_off2 i 0#32 = ![0, 4 * (i 1).val, 0] := off2_eq i 0
  have e1 : k0_off2 i 1#32 = ![0, 4 * (i 1).val + 1, 0] := off2_eq i 1
  have e2 : k0_off2 i 2#32 = ![0, 4 * (i 1).val + 2, 0] := off2_eq i 2
  have e3 : k0_off2 i 3#32 = ![0, 4 * (i 1).val + 3, 0] := off2_eq i 3
  have s0 := ld_scales (arg4.view.read (Elt F) f4) _ (k0_off2_inb i 0) (4 * (i 1).val) (by omega) e0
  have r0 : View.readAt (Elt F) arg4.view (Rect.unit (s := S1x128x128) (k0_off2 i 0#32) S1x1x128.size (k0_off2_inb i 0)).toLoadRect f4 = srow (arg4.view.read (Elt F) f4) (4 * (i 1).val) := s0
  have s1 := ld_scales (arg4.view.read (Elt F) f4) _ (k0_off2_inb i 1) (4 * (i 1).val + 1) (by omega) e1
  have r1 : View.readAt (Elt F) arg4.view (Rect.unit (s := S1x128x128) (k0_off2 i 1#32) S1x1x128.size (k0_off2_inb i 1)).toLoadRect f4 = srow (arg4.view.read (Elt F) f4) (4 * (i 1).val + 1) := s1
  have s2 := ld_scales (arg4.view.read (Elt F) f4) _ (k0_off2_inb i 2) (4 * (i 1).val + 2) (by omega) e2
  have r2 : View.readAt (Elt F) arg4.view (Rect.unit (s := S1x128x128) (k0_off2 i 2#32) S1x1x128.size (k0_off2_inb i 2)).toLoadRect f4 = srow (arg4.view.read (Elt F) f4) (4 * (i 1).val + 2) := s2
  have s3 := ld_scales (arg4.view.read (Elt F) f4) _ (k0_off2_inb i 3) (4 * (i 1).val + 3) (by omega) e3
  have r3 : View.readAt (Elt F) arg4.view (Rect.unit (s := S1x128x128) (k0_off2 i 3#32) S1x1x128.size (k0_off2_inb i 3)).toLoadRect f4 = srow (arg4.view.read (Elt F) f4) (4 * (i 1).val + 3) := s3
  have hnew : ∀ (f : arg6.view.ty.Contents (Elt F)) (y : S16384x128.Idx), 512 * (i 1).val ≤ (y 0).val → (y 0).val < 512 * ((i 1).val + 1) →
      arg6.view.read (Elt F) (arg6.view.writes (Elt F) f (live.sl.H6_4 c i arg4 f4)) y = col (arg4.view.read (Elt F) f4) y := fun f y h1 h2 =>
    read_col_new arg6.view f (arg4.view.read (Elt F) f4) i _ _ _ _ (congrArg k0_pay3 s0) (congrArg k0_pay4 s1) (congrArg k0_pay5 s2) (congrArg k0_pay6 s3) y h1 h2
  have hall : ∀ (y : S16384x128.Idx), (y 0).val < 512 * ((i 1).val + 1) →
      arg6.view.read (Elt F) (arg6.view.writes (Elt F) f6 (live.sl.H6_4 c i arg4 f4)) y = col (arg4.view.read (Elt F) f4) y := fun y h2 => by
    by_cases h1 : 512 * (i 1).val ≤ (y 0).val
    · exact hnew f6 y h1 h2
    · exact (read_col_old arg6.view f6 i _ _ _ _ y (by omega)).trans (h6 y (by omega))
  have c70 : live.sl.v70 c i arg4 arg6 f4 = cblk (arg4.view.read (Elt F) f4) (i 1).val :=
    ld_col (arg6.view.read (Elt F) (arg6.view.writes (Elt F) arg6.view.junk (live.sl.H6_4 c i arg4 f4))) (arg4.view.read (Elt F) f4) _ (k0_off5_inb i) (i 1).val hq (off5_eq i) (hnew _)
  have a0 : k0_pay7 (View.readAt (Elt F) arg3.view (Rect.unit (s := S1x16384x512) (k0_off4 i) S1x512x512.size (k0_off4_inb i)).toLoadRect f3)
      (View.readAt (Elt F) arg3.view (Rect.unit (s := S1x16384x512) (k0_off4 i) S1x512x512.size (k0_off4_inb i)).toLoadRect f3) (live.sl.v70 c i arg4 arg6 f4)
      = accN (arg3.view.read (Elt F) f3) (arg4.view.read (Elt F) f4) (i 1).val 0 := by
    have hc := ld_codes (arg3.view.read (Elt F) f3) _ (k0_off4_inb i) (i 1).val hq (off4_eq i)
    rw [c70]
    exact congrArg (fun z => k0_pay7 z z (cblk (arg4.view.read (Elt F) f4) (i 1).val)) hc
  have hbest : live.sl.r_1 c i arg3 harg3 arg4 harg4 arg5 harg5 arg6 harg6 f3 f4 f6 = best (arg3.view.read (Elt F) f3) (arg4.view.read (Elt F) f4) (i 1).val := by
    unfold live.sl.r_1 best
    rw [a0, show Scf.trips (k0_t1_loop i).lb (k0_t1_loop i).ub (k0_t1_loop i).st = (i 1).val from trips1 i,
      show Scf.trips (k0_t2_loop i).lb (k0_t2_loop i).ub (k0_t2_loop i).st = 0 from trips2 i, st_k0_t2_zero,
      st_eq _ _ _ i _ _ _ _ _ _ _ _ _ _ _ _ _ _ (arg4.view.read (Elt F) f4) (fun y h => hall y (by omega)) _ le_rfl]
  iapply Hk
  isplitl [H2]
  · iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    funext y
    refine (read_out arg5.view f5 _ _ _ _ y).trans ?_
    unfold live.sl.r_2 live.sl.r_3 live.sl.r_4
    rw [hbest]
    unfold liveOut
    rw [r0, r1, r2, r3]
    rfl
  iexists _; isplitr
  swap
  · iexists _; isplitr
    swap; · iexact H6
    ipureintro; rfl
  ipureintro; exact hall

set_option maxHeartbeats 4000000 in
/-- A grid point past the cluster: zeros, and the column buffer as it was. -/
theorem dead (c : Dev nD) (E : Set ℕ) (i : grid0.Coords) (f2 : TbBuf (F := F) c)
    (arg3 : Memref sig .tc .vmem S1x16384x512 .fp8e4m3) (harg3 : arg3.IsWhole) (arg4 : Memref sig .tc .vmem S1x128x128 .f32) (harg4 : arg4.IsWhole) (arg5 : Memref sig .tc .vmem S1x4x128 .f32) (harg5 : arg5.IsWhole) (arg6 : Memref sig .tc .vmem S16384x128 .f32) (harg6 : arg6.IsWhole)
    (x3 : Vec F S1x16384x512 .fp8e4m3) (x4 : Vec F S1x128x128 .f32) (x6 : Vec F S16384x128 .f32)
    (hl : k0_cond1 i (word c i f2) ≠ 1#1) (hd : k0_cond2 i (word c i f2) = 1#1)
    (K : PUnit → sProp 𝕄) :
    iprop(tbPt c f2 ∗ owns (c : Thread nD τ) arg3 fullShare x3 ∗ owns (c : Thread nD τ) arg4 fullShare x4 ∗ (∃ d, owns (c : Thread nD τ) arg5 fullShare d) ∗ owns (c : Thread nD τ) arg6 fullShare x6
        ∗ (iprop(tbPt c f2 ∗ owns (c : Thread nD τ) arg3 fullShare x3 ∗ owns (c : Thread nD τ) arg4 fullShare x4 ∗ owns (c : Thread nD τ) arg5 fullShare (k0_pay2 (F := F))
          ∗ owns (c : Thread nD τ) arg6 fullShare x6) -∗ K ⟨⟩))
      ⊢ wp frame (wpE (defs₀ (F := F)) Variants.none c none) E (cc0_semdedup i tbM htbM arg3 harg3 arg4 harg4 arg5 harg5 arg6 harg6) K := by
  simp only [cc0_semdedup_eq_skeleton, k0_part1_eq_skeleton, k0_part2_eq_skeleton, k0_part3_eq_skeleton, k0_part4_eq_skeleton]; unfold cc0_semdedup_skel
  unfold owns
  iintro ⟨H2, ⟨%f3, %hf3, H3⟩, ⟨%f4, %hf4, H4⟩, ⟨%d5, %f5, -, H5⟩, ⟨%f6, %hf6, H6⟩, Hk⟩
  subst hf3 hf4 hf6
  sl_exec
  sl_step
  iapply Hk
  isplitl [H2]
  · iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    funext y
    exact View.read_writes_cons_unit_of_mem arg5.view f5 _ _ _ y y rfl fun a => by
      match a with
      | ⟨0, _⟩ => exact (Nat.zero_add _).symm
      | ⟨1, _⟩ => exact (Nat.zero_add _).symm
      | ⟨2, _⟩ => exact (Nat.zero_add _).symm
  iexists f6; isplitr
  · ipureintro; rfl
  iexact H6

/-- The body at any grid point. -/
theorem sound_kernel (c : Dev nD) (E : Set ℕ) (i : grid0.Coords) (f2 : TbBuf (F := F) c)
    (arg3 : Memref sig .tc .vmem S1x16384x512 .fp8e4m3) (harg3 : arg3.IsWhole) (arg4 : Memref sig .tc .vmem S1x128x128 .f32) (harg4 : arg4.IsWhole) (arg5 : Memref sig .tc .vmem S1x4x128 .f32) (harg5 : arg5.IsWhole) (arg6 : Memref sig .tc .vmem S16384x128 .f32) (harg6 : arg6.IsWhole)
    (x3 : Vec F S1x16384x512 .fp8e4m3) (x4 : Vec F S1x128x128 .f32) (x6 : Vec F S16384x128 .f32)
    (h6 : k0_cond1 i (word c i f2) = 1#1 → ∀ y : S16384x128.Idx, (y 0).val < 512 * (i 1).val → x6 y = col x4 y)
    (K : PUnit → sProp 𝕄) :
    iprop(tbPt c f2 ∗ owns (c : Thread nD τ) arg3 fullShare x3 ∗ owns (c : Thread nD τ) arg4 fullShare x4 ∗ (∃ d, owns (c : Thread nD τ) arg5 fullShare d) ∗ owns (c : Thread nD τ) arg6 fullShare x6
        ∗ (iprop(tbPt c f2 ∗ owns (c : Thread nD τ) arg3 fullShare x3 ∗ owns (c : Thread nD τ) arg4 fullShare x4 ∗ owns (c : Thread nD τ) arg5 fullShare (outBlk i (word c i f2) x3 x4)
          ∗ (∃ x6', ⌜k0_cond1 i (word c i f2) = 1#1 → ∀ y : S16384x128.Idx, (y 0).val < 512 * ((i 1).val + 1) → x6' y = col x4 y⌝ ∗ owns (c : Thread nD τ) arg6 fullShare x6')) -∗ K ⟨⟩))
      ⊢ wp frame (wpE (defs₀ (F := F)) Variants.none c none) E (cc0_semdedup i tbM htbM arg3 harg3 arg4 harg4 arg5 harg5 arg6 harg6) K := by
  by_cases hl : k0_cond1 i (word c i f2) = 1#1
  · have hd : k0_cond2 i (word c i f2) ≠ 1#1 := fun h => (cond2_iff i _).mp h hl
    rw [show outBlk i (word c i f2) x3 x4 = liveOut (i 1).val (word c i f2) x3 x4 from if_pos hl]
    iintro ⟨H2, H3, H4, H5, H6, Hk⟩
    iapply (live c E i f2 arg3 harg3 arg4 harg4 arg5 harg5 arg6 harg6 x3 x4 x6 hl hd (h6 hl) K)
    isplitl [H2]; · iexact H2
    isplitl [H3]; · iexact H3
    isplitl [H4]; · iexact H4
    isplitl [H5]; · iexact H5
    isplitl [H6]; · iexact H6
    iintro ⟨H2, H3, H4, H5, ⟨%x6', %hx, H6⟩⟩
    iapply Hk
    isplitl [H2]; · iexact H2
    isplitl [H3]; · iexact H3
    isplitl [H4]; · iexact H4
    isplitl [H5]; · iexact H5
    iexists x6'; isplitr
    · ipureintro; exact fun _ => hx
    iexact H6
  · have hd : k0_cond2 i (word c i f2) = 1#1 := (cond2_iff i _).mpr hl
    rw [show outBlk i (word c i f2) x3 x4 = k0_pay2 from if_neg hl]
    iintro ⟨H2, H3, H4, H5, H6, Hk⟩
    iapply (dead c E i f2 arg3 harg3 arg4 harg4 arg5 harg5 arg6 harg6 x3 x4 x6 hl hd K)
    isplitl [H2]; · iexact H2
    isplitl [H3]; · iexact H3
    isplitl [H4]; · iexact H4
    isplitl [H5]; · iexact H5
    isplitl [H6]; · iexact H6
    iintro ⟨H2, H3, H4, H5, H6⟩
    iapply Hk
    isplitl [H2]; · iexact H2
    isplitl [H3]; · iexact H3
    isplitl [H4]; · iexact H4
    isplitl [H5]; · iexact H5
    iexists x6; isplitr
    · ipureintro; exact fun h => absurd h hl
    iexact H6

end Cert.KernelIdeal.Hand
-- ==== Proof.RunKernelIdeal.lean ====
/-
  The run of the kernel: what every grid point finds and leaves, the whole program's run, and that its arguments end unchanged.
-/
module

public import proofs.«01_k».proof.Proof.BodyKernelIdeal
public import proofs.«01_k».proof.Proof.Gen.KernelIdeal.Launch
public import Idealize.ShloMosaic.Lib.Pipeline.FrameSuffix
public import Idealize.ShloMosaic.Lib.Pipeline.FrameBody
public import Idealize.ShloMosaic.Lib.Pipeline.ValueKit
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents when the region is entered -/

/-- Every buffer of core `c` when the region is entered: as launched, after the host reshape of the scales. -/
def V₀ (c : Dev nD) : Valuation τ sig (Elt F) :=
  StableHlo.after ([hostOps0 (F := F)] : List (List (HloOp τ sig (Elt F)))).flatten (fun b => m (c, b))
/-- The same, by reference. -/
abbrev V (c : Dev nD) (b : Ref sig .tc) : Buf (Elt F) ((c : Thread nD τ).loc b) := V₀ m c (Proc.devRef .tc b)

/-- The call finds the codes as they were given. -/
theorem V_main_arg0 (c : Dev nD) : V m c main_arg0 = m ((c : Thread nD τ).loc main_arg0) := by
  unfold V V₀
  exact StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
/-- The call finds the scales as they were given. -/
theorem V_main_arg1 (c : Dev nD) : V m c main_arg1 = m ((c : Thread nD τ).loc main_arg1) := by
  unfold V V₀
  exact StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
/-- The call finds the sizes as they were given. -/
theorem V_main_arg2 (c : Dev nD) : V m c main_arg2 = m ((c : Thread nD τ).loc main_arg2) := by
  unfold V V₀
  exact StableHlo.after_of_forall_not_mem (b := Proc.devRef .tc main_arg2) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-! ## The table of sizes -/

/-- The table's contents when the region is entered. -/
def tbl : pre0.Contents (Elt F) := fun j => V m (0 : Dev nD) (pre0.ref j)
/-- The prefetched table is the array of sizes. -/
theorem V_pre (c : Dev nD) (j : Fin 1) : V m c (pre0.ref j) = tbl m j := by
  obtain rfl : c = 0 := Subsingleton.elim _ _; rfl
/-- They satisfy the pipeline's side condition, which is `True`. -/
abbrev adm : (pcfg0 (F := F)).Adm := ⟨tbl m, trivial⟩
abbrev cfgM : Pipeline.Cfg sig Λ₀ := cfg0 (adm m)
/-- The assertion about the tables is the one about the sizes. -/
theorem PhiT_eq (c : Dev nD) : (Pipeline.ΦT pre0 (tbl m) c : sProp 𝕄) = iprop(tbPt c (tbl m 0)) := by
  unfold Pipeline.ΦT Pipeline.prefHeld
  rw [show (Finset.univ : Finset (Fin 1)) = {(0 : Fin 1)} from by decide, bigSep_singleton]
  rfl

/-- The size of the cluster of point `i`. -/
abbrev wd (c : Dev nD) (i : grid0.Coords) : Elt F .i32 := word c i (tbl m 0)

/-! ## The windows' blocks -/

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Before a point, the first window holds its block of codes. -/
theorem before_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Before a point, the second window holds its block of scales. -/
theorem before_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The body writes its output block at every point: one of its two conditions holds. -/
theorem idle2 (i : grid0.Coords) : (cfgM m).idle 2 i = false := by
  show (!(k0_cond1 i ((tbl m).atD 0 (k0_off1 i)) == 1#1) && !(k0_cond2 i ((tbl m).atD 0 (k0_off1 i)) == 1#1)) = false
  have h := cond2_iff i ((tbl m).atD 0 (k0_off1 i))
  by_cases h1 : k0_cond1 i ((tbl m).atD 0 (k0_off1 i)) = 1#1
  · simp [h1]
  · simp [h.2 h1]

/-! ## The grid -/

/-- Point t is block t mod 32 of cluster t / 32. -/
theorem coords_eq : ∀ t : Fin grid0.N, (grid0.coords t 0).val = t.val / 32 ∧ (grid0.coords t 1).val = t.val % 32 := by
  decide +kernel

/-! ## The proof data -/

attribute [local irreducible] outBlk col

/-- What is known of the column buffer before point `n`: where the point computes, its rows before the point's block are the
    column form of its cluster's scales. -/
def Good (c : Dev nD) (n : ℕ) (x6 : Vec F S16384x128 .f32) : Prop :=
  ∀ h : n < (cfgM m).N, k0_cond1 (grid0.coords ⟨n, h⟩) (wd m c (grid0.coords ⟨n, h⟩)) = 1#1 →
    ∀ y : S16384x128.Idx, (y 0).val < 512 * (grid0.coords ⟨n, h⟩ 1).val → x6 y = col (iblk m c 1 ⟨n, h⟩) y

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => outBlk (grid0.coords t) (wd m c (grid0.coords t)) (iblk m c 0 t) (iblk m c 1 t)
  Φ t := iprop((∃ x6 : Vec F S16384x128 .f32, ⌜Good m c t.val x6⌝ ∗ owns (c : Thread nD τ) (Memref.whole cc0_scratch0) fullShare x6)
    ∗ (∃ r, prngReg c r) ∗ tbPt c (tbl m 0))
  q _ := fullShare
  owed _ := 0

/-- The arrays behind the windows are those the call finds. -/
theorem A_eq (c : Dev nD) (w : Fin (cfgM m).W) : (dats m 0 c).A w = V m c (Pipeline.arrRef spec0 w) := by
  dsimp only [dats]
/-- A point leaves the codes in their window. -/
theorem after_0 (c : Dev nD) (t : Fin (cfgM m).N) : (dats m 0 c).after 0 t = iblk m c 0 t := rfl
/-- A point leaves the scales in their window. -/
theorem after_1 (c : Dev nD) (t : Fin (cfgM m).N) : (dats m 0 c).after 1 t = iblk m c 1 t := rfl
/-- After a point, the output window holds what the point computes. -/
theorem after_2 (c : Dev nD) (t : Fin (cfgM m).N) : (dats m 0 c).after 2 t
    = outBlk (grid0.coords t) (wd m c (grid0.coords t)) (iblk m c 0 t) (iblk m c 1 t) := rfl
/-- Before a point, the window of codes holds its block. -/
theorem before_0 (c : Dev nD) (t : Fin (cfgM m).N) (d) : (dats m 0 c).before 0 t d = iblk m c 0 t :=
  before_0_of m (dats m 0 c) (A_eq m c 0) (after_0 m c) t d
/-- Before a point, the window of scales holds its block. -/
theorem before_1 (c : Dev nD) (t : Fin (cfgM m).N) (d) : (dats m 0 c).before 1 t d = iblk m c 1 t :=
  before_1_of m (dats m 0 c) (A_eq m c 1) (after_1 m c) t d
/-- What is carried into point t: the sizes, and the scratch with the columns written so far. -/
theorem Phi_eq (c : Dev nD) (t : Fin ((cfgM m).N + 1)) : (dats m 0 c).Φ t
    = iprop((∃ x6 : Vec F S16384x128 .f32, ⌜Good m c t.val x6⌝ ∗ owns (c : Thread nD τ) (Memref.whole cc0_scratch0) fullShare x6)
    ∗ (∃ r, prngReg c r) ∗ tbPt c (tbl m 0)) := by dsimp only [dats]

/-! ## From one point to the next -/

/-- The table word depends on the cluster only. -/
theorem wd_congr (c : Dev nD) (i i' : grid0.Coords) (h : (i 0).val = (i' 0).val) : wd m c i = wd m c i' := by
  have e : k0_off1 i = k0_off1 i' := by
    unfold k0_off1; rw [h]
  have : ∀ (o o' : Fin 1 → ℕ) (ho ho'), o = o' →
      tbM.view.readAt (Elt F) (Rect.unit (s := S6) o S1.size ho) (tbl m 0) (Shape.Idx.first (numel1_S1.symm ▸ Nat.one_pos))
        = tbM.view.readAt (Elt F) (Rect.unit (s := S6) o' S1.size ho') (tbl m 0) (Shape.Idx.first (numel1_S1.symm ▸ Nat.one_pos)) := by
    rintro o _ ho ho' rfl; rfl
  exact this _ _ _ _ e

/-- There are six clusters. -/
theorem c0_lt (i : grid0.Coords) : (i 0).val < 6 := (i 0).isLt
/-- A cluster has 32 blocks. -/
theorem c1_lt (i : grid0.Coords) : (i 1).val < 32 := (i 1).isLt

/-- A point's codes are those of its cluster. -/
theorem tr0 (i : grid0.Coords) : cc0_transform_0 i = ![(i 0).val, 0, 0] := by
  have := c0_lt i
  unfold cc0_transform_0
  simp only [BitVec.toNat_ofNat]
  rw [Nat.mod_eq_of_lt (by omega)]
/-- A point's scales are those of its cluster. -/
theorem tr1 (i : grid0.Coords) : cc0_transform_1 i = ![(i 0).val, 0, 0] := by
  have := c0_lt i
  unfold cc0_transform_1
  simp only [BitVec.toNat_ofNat]
  rw [Nat.mod_eq_of_lt (by omega)]
/-- A point's output block is block q of cluster b, numbered 32 b + q. -/
theorem tr2 (i : grid0.Coords) : cc0_transform_2 i = ![32 * (i 0).val + (i 1).val, 0, 0] := by
  have := c0_lt i
  have := c1_lt i
  unfold cc0_transform_2 Scalar.muli Scalar.addi
  show ![(BitVec.ofNat 32 (i 0).val * 32#32 + BitVec.ofNat 32 (i 1).val).toNat, 0, 0] = _
  simp only [BitVec.toNat_ofNat, BitVec.toNat_add, BitVec.toNat_mul]
  congr 1
  omega

/-- The window of codes at point t is the cluster's. -/
theorem index0 (t : Fin (cfgM m).N) : ((cfgM m).win 0).index t = ![(grid0.coords t 0).val, 0, 0] := tr0 _
/-- The window of scales at point t is the cluster's. -/
theorem index1 (t : Fin (cfgM m).N) : ((cfgM m).win 1).index t = ![(grid0.coords t 0).val, 0, 0] := tr1 _
/-- The output window at point t is block t. -/
theorem index2 (t : Fin (cfgM m).N) : ((cfgM m).win 2).index t = ![t.val, 0, 0] := by
  refine (tr2 _).trans ?_
  obtain ⟨h0, h1⟩ := coords_eq t
  rw [h0, h1]
  congr 1
  omega

/-- The block of codes at a point is its cluster's. -/
theorem iblk0_at (c : Dev nD) (t : Fin (cfgM m).N) (r : Fin 16384) (d : Fin 512) :
    iblk m c 0 t (ix3 0 r d) = V m c main_arg0 (ix3 (⟨(grid0.coords t 0).val, c0_lt _⟩ : Fin 6) r d) := by
  unfold iblk
  show V m c main_arg0 _ = _
  congr 1
  funext a
  apply Fin.ext
  blk_simp
  rw [index0]
  match a with
  | ⟨0, _⟩ => show (grid0.coords t 0).val * 1 + 0 = (grid0.coords t 0).val; omega
  | ⟨1, _⟩ => show 0 * 16384 + r.val = r.val; omega
  | ⟨2, _⟩ => show 0 * 512 + d.val = d.val; omega

/-- The block of scales at a point is its cluster's. -/
theorem iblk1_at (c : Dev nD) (t : Fin (cfgM m).N) (r : Fin 128) (d : Fin 128) :
    iblk m c 1 t (ix3 0 r d) = V m c main_v0 (ix3 (⟨(grid0.coords t 0).val, c0_lt _⟩ : Fin 6) r d) := by
  unfold iblk
  show V m c main_v0 _ = _
  congr 1
  funext a
  apply Fin.ext
  blk_simp
  rw [index1]
  match a with
  | ⟨0, _⟩ => show (grid0.coords t 0).val * 1 + 0 = (grid0.coords t 0).val; omega
  | ⟨1, _⟩ => show 0 * 128 + r.val = r.val; omega
  | ⟨2, _⟩ => show 0 * 128 + d.val = d.val; omega

/-- The block of scales depends on the cluster only. -/
theorem iblk1_congr (c : Dev nD) (t t' : Fin (cfgM m).N) (h : (grid0.coords t 0).val = (grid0.coords t' 0).val) :
    iblk m c 1 t = iblk m c 1 t' := by
  have key : ∀ (f g : Vec F S1x128x128 .f32), (∀ r d : Fin 128, f (ix3 0 r d) = g (ix3 0 r d)) → f = g := by
    intro f g hfg
    funext y
    have e : y = ix3 (0 : Fin 1) (y 1) (y 2) := by
      funext a
      match a with
      | ⟨0, _⟩ => exact Subsingleton.elim (α := Fin 1) _ _
      | ⟨1, _⟩ => rfl
      | ⟨2, _⟩ => rfl
    rw [e]; exact hfg _ _
  refine key (iblk m c 1 t) (iblk m c 1 t') fun r d => ?_
  rw [iblk1_at, iblk1_at, Fin.ext (a := (⟨(grid0.coords t 0).val, c0_lt _⟩ : Fin 6)) (b := ⟨(grid0.coords t' 0).val, c0_lt _⟩) h]

/-- What the body leaves of the column buffer is what the next point needs. -/
theorem good_step (c : Dev nD) (t : Fin (cfgM m).N) (x6 : Vec F S16384x128 .f32)
    (h : k0_cond1 (grid0.coords t) (wd m c (grid0.coords t)) = 1#1 →
      ∀ y : S16384x128.Idx, (y 0).val < 512 * ((grid0.coords t 1).val + 1) → x6 y = col (iblk m c 1 t) y) :
    Good m c (t.val + 1) x6 := by
  intro hn hl y hy
  obtain ⟨a0, a1⟩ := coords_eq t
  obtain ⟨b0, b1⟩ := coords_eq ⟨t.val + 1, hn⟩
  have hN : t.val + 1 < 192 := lt_of_lt_of_eq hn N_0
  rw [b1] at hy
  simp only at hy b0
  by_cases hz : (t.val + 1) % 32 = 0
  · rw [hz] at hy; omega
  have e0 : (grid0.coords t 0).val = (grid0.coords ⟨t.val + 1, hn⟩ 0).val := by rw [a0, b0]; omega
  rw [← iblk1_congr m c t ⟨t.val + 1, hn⟩ e0]
  refine h ?_ y ?_
  · rw [cond1_iff] at hl ⊢
    rw [← wd_congr m c _ _ e0, b1] at hl
    rw [a1]
    simp only at hl
    refine lt_trans ?_ hl
    omega
  · rw [a1]; omega

/-- What the body needs of the column buffer at a point. -/
theorem good_here (c : Dev nD) (t : Fin (cfgM m).N) (x6 : Vec F S16384x128 .f32) (hx : Good m c t.val x6) :
    k0_cond1 (grid0.coords t) (word c (grid0.coords t) (tbl m 0)) = 1#1 →
      ∀ y : S16384x128.Idx, (y 0).val < 512 * (grid0.coords t 1).val → x6 y = col (iblk m c 1 t) y :=
  fun hl y hy => hx t.isLt hl y hy

/-! ## The body obligation -/

abbrev st_0 (t : Fin (cfgM m).N) := ((cfgM m).win 0).stage ((cfgM m).slots t 0)
abbrev st_1 (t : Fin (cfgM m).N) := ((cfgM m).win 1).stage ((cfgM m).slots t 1)
abbrev st_2 (t : Fin (cfgM m).N) := ((cfgM m).win 2).stage ((cfgM m).slots t 2)

/-- The kernel body at point `t`. -/
abbrev bodyAt (t : Fin (cfgM m).N) : Prog (TpuEff nD τ sig (Elt F) Λ₀ .tc) PUnit :=
  cc0_semdedup (grid0.coords t) (Memref.whole main_arg2) (Memref.isWhole_whole _)
    (st_0 m t) (hstage0_0 (((cfgM m).slots t 0).cast nbuf0_0)) (st_1 m t) (hstage0_1 (((cfgM m).slots t 1).cast nbuf0_1))
    (st_2 m t) (hstage0_2 (((cfgM m).slots t 2).cast nbuf0_2)) (Memref.whole cc0_scratch0) (Memref.isWhole_whole _)

def bodyPre (c : Dev nD) (t : Fin (cfgM m).N) : sProp 𝕄 :=
  iprop((dats m 0 c).Φ t.castSucc ∗ (dats m 0 c).owesAt () t.castSucc
    ∗ (∃ d, owns (c : Thread nD τ) (st_0 m t) fullShare ((dats m 0 c).before 0 t d))
    ∗ (∃ d, owns (c : Thread nD τ) (st_1 m t) fullShare ((dats m 0 c).before 1 t d))
    ∗ (∃ d, owns (c : Thread nD τ) (st_2 m t) fullShare ((dats m 0 c).before 2 t d)))

def bodyPost (c : Dev nD) (t : Fin (cfgM m).N) : sProp 𝕄 :=
  iprop((dats m 0 c).Φ t.succ ∗ (dats m 0 c).owesAt () t.succ
    ∗ owns (c : Thread nD τ) (st_0 m t) fullShare ((dats m 0 c).after 0 t)
    ∗ owns (c : Thread nD τ) (st_1 m t) fullShare ((dats m 0 c).after 1 t)
    ∗ owns (c : Thread nD τ) (st_2 m t) fullShare ((dats m 0 c).after 2 t))

/-- The body's triple at a point, on the windows' staging buffers. -/
theorem sound_at (c : Dev nD) (t : Fin (cfgM m).N) (x6 : Vec F S16384x128 .f32) (hx : Good m c t.val x6) (K : PUnit → sProp 𝕄) :
    iprop(tbPt c (tbl m 0) ∗ owns (c : Thread nD τ) (st_0 m t) fullShare (iblk m c 0 t) ∗ owns (c : Thread nD τ) (st_1 m t) fullShare (iblk m c 1 t)
      ∗ (∃ d, owns (c : Thread nD τ) (st_2 m t) fullShare d) ∗ owns (c : Thread nD τ) (Memref.whole cc0_scratch0) fullShare x6
      ∗ (iprop(tbPt c (tbl m 0) ∗ owns (c : Thread nD τ) (st_0 m t) fullShare (iblk m c 0 t) ∗ owns (c : Thread nD τ) (st_1 m t) fullShare (iblk m c 1 t)
        ∗ owns (c : Thread nD τ) (st_2 m t) fullShare (outBlk (grid0.coords t) (wd m c (grid0.coords t)) (iblk m c 0 t) (iblk m c 1 t))
        ∗ (∃ x6' : Vec F S16384x128 .f32, ⌜k0_cond1 (grid0.coords t) (wd m c (grid0.coords t)) = 1#1 →
              ∀ y : S16384x128.Idx, (y 0).val < 512 * ((grid0.coords t 1).val + 1) → x6' y = col (iblk m c 1 t) y⌝
            ∗ owns (c : Thread nD τ) (Memref.whole cc0_scratch0) fullShare x6')) -∗ K ⟨⟩))
    ⊢ wp frame (wpE (defs₀ (F := F)) Variants.none c none) Set.univ (bodyAt m t) K :=
  sound_kernel c Set.univ (grid0.coords t) (tbl m 0) (st_0 m t) (hstage0_0 (((cfgM m).slots t 0).cast nbuf0_0))
    (st_1 m t) (hstage0_1 (((cfgM m).slots t 1).cast nbuf0_1)) (st_2 m t) (hstage0_2 (((cfgM m).slots t 2).cast nbuf0_2))
    (Memref.whole cc0_scratch0) (Memref.isWhole_whole _) (iblk m c 0 t) (iblk m c 1 t) x6 (good_here m c t x6 hx) K

/-- The body at any point, from what the pipeline hands it to what the proof data say it leaves. -/
theorem sound_body (c : Dev nD) (t : Fin (cfgM m).N) :
    bodyPre m c t ⊢ wp frame (wpE (defs₀ (F := F)) Variants.none c none) Set.univ (bodyAt m t) (fun _ => bodyPost m c t) := by
  unfold bodyPre
  simp only [before_0, before_1, Phi_eq, Fin.val_castSucc]
  iintro ⟨⟨⟨%x6, %hx, H6⟩, Hr, Ht⟩, Ho, ⟨%d0, H0⟩, ⟨%d1, H1⟩, ⟨%d2, H2⟩⟩
  iapply (sound_at m c t x6 hx (fun _ => bodyPost m c t))
  isplitl [Ht]; · iexact Ht
  isplitl [H0]; · iexact H0
  isplitl [H1]; · iexact H1
  isplitl [H2]; · iexists _; iexact H2
  isplitl [H6]; · iexact H6
  iintro ⟨Ht, H0, H1, H2, ⟨%x6', %hx', H6⟩⟩
  unfold bodyPost
  simp only [Phi_eq, after_0, after_1, after_2, Fin.val_succ]
  rw [show (dats m 0 c).owesAt () t.succ = (dats m 0 c).owesAt () t.castSucc from rfl]
  isplitl [H6 Hr Ht]
  · isplitl [H6]
    · iexists x6'
      isplitr
      · ipureintro; exact good_step m c t x6' hx'
      iexact H6
    isplitl [Hr]; · iexact Hr
    iexact Ht
  isplitl [Ho]; · iexact Ho
  isplitl [H0]; · iexact H0
  isplitl [H1]; · iexact H1
  iexact H2

/-- The body's definition at point t is the kernel's body there. -/
theorem defs₀_row (t : Fin (cfgM m).N) :
    defs₀ (F := F) .tc (cfgM m).body ((cfgM m).bodyArgs t ((cfgM m).slots t)) = bodyAt m t := by
  unfold defs₀; rw [Defs.onTc_tc]; rfl

/-- Each point's body meets its specification. -/
theorem body_obligation (c : Dev nD) : BodyObligation (dats (F := F) m 0 c) (defs₀ (F := F)) Variants.none () Set.univ := fun t => by
  rw [bigSep_W0, bigSep_W0, defs₀_row, idle2]
  exact triple_restated (sound_body m c t) rfl .rfl fun _ => .rfl

/-! ## The run -/

/-- The host program is the reshape, the call and the reshape back. -/
theorem hmain : Pipeline.HMainPK (Ix := Unit) (Name := ℕ) (U := UR sig nD τ) (Lvl := ℕ) pcfgs 0 defs₀ Variants.none m (main (F := F))
    (fun c b => V₀ m c (Proc.devRef .tc b)) (fun _ => Pipeline.chain (([hostOps1 (F := F)] : List (List (HloOp τ sig (Elt F)))).map StableHlo.seq)) :=
  Pipeline.hmainP_around (pcs := pcfgs) (p := 0) (defs₀ := defs₀) (𝒱₀ := Variants.none) m (main (F := F)) [hostOps0] [hostOps1]
    hostOps0_sub rfl (fun c => main_chain c)

/-- The trailing reshape does not touch the table. -/
theorem tail_pre : ∀ k, Proc.devRef (τ := τ) .tc (pre0.ref k)
    ∉ (StableHlo.reshape main_v1 main_v2 (rfl : (.f32 : EltTy) = .f32) shapeCasts_S192x4x128_S6x16384 : HloOp τ sig (Elt F)).bufs := by
  intro k
  obtain rfl : k = 0 := Subsingleton.elim _ _
  rw [StableHlo.reshape_bufs]
  simp only [Finset.mem_insert, Finset.mem_singleton, not_or]
  exact ⟨StableHlo.devRef_ne_of_ne (by decide), StableHlo.devRef_ne_of_ne (by decide)⟩

/-- The array of scales as given is none of the arrays behind the windows. -/
theorem rest_arg1 : main_arg1 ∈ Pipeline.restRefs sig spec0 := by decide
/-- The array of sizes is none of the arrays behind the windows. -/
theorem rest_arg2 : main_arg2 ∈ Pipeline.restRefs sig spec0 := by decide

/-- What the launch gives is what the first point needs. -/
theorem phi_in (c : Dev nD) : iprop(Pipeline.ΦA spec0 c ∗ Pipeline.ΦT pre0 (tbl m) c) ⊢ (dats m 0 c).Φ 0 := by
  rw [Phi_eq, PhiT_eq]
  unfold Pipeline.ΦA
  rw [scopedRest0_eq]
  iintro ⟨⟨⟨%f, H⟩, Hr⟩, Ht⟩
  isplitl [H]
  · iexists f
    isplitr
    · ipureintro
      intro h hl y hy
      exfalso
      have e := (coords_eq ⟨0, h⟩).2
      have hy' : (y 0).val < 512 * (grid0.coords ⟨0, h⟩ 1).val := hy
      rw [e] at hy'
      simp at hy'
    rw [owns_whole (c : Thread nD τ)]
    iexact H
  isplitl [Hr]; · iexact Hr
  iexact Ht

/-- What the last point leaves is what the launch takes back. -/
theorem phi_out (c : Dev nD) : (dats m 0 c).Φ (Fin.last (cfgM m).N) ⊢ Pipeline.ΦA spec0 c := by
  rw [Phi_eq]
  unfold Pipeline.ΦA
  rw [scopedRest0_eq]
  simp only [owns_whole (c : Thread nD τ)]
  iintro ⟨⟨%x6, -, H⟩, Hr, -⟩
  isplitl [H]
  · iexists x6
    iexact H
  iexact Hr

set_option backward.isDefEq.respectTransparency.types false in
set_option maxHeartbeats 1600000 in
/-- The program runs to the end from any memory: every array at what the proof data say, every other buffer at the contents
    after the trailing reshape, every counter at zero. -/
theorem run_main_quiescent : θ_run defs (onTc (τ := τ) (main (F := F))) (s₀ m ρ)
    (fun r => (Pipeline.FramePost (Pipeline.pin pcfgs fun _ => adm m) (dats m) 0
      (Pipeline.afterTail pcfgs (fun _ => adm m) (dats m) 0 (V₀ m) [hostOps1])) r ∧ r.2.sem = fun _ => 0) :=
  Pipeline.θ_run_frameP_around_track (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V₀ := V₀ m) (opss := [hostOps1])
    (hsub := fun ops hops op hop => by
      obtain rfl := List.mem_singleton.mp hops
      obtain rfl := List.mem_singleton.mp hop
      exact Pipeline.sub_tailRefs pre0 spec0 _ (StableHlo.reshape_bufs_sub ..) tail_pre)
    (hfresh := fun ops hops op hop => by
      obtain rfl := List.mem_singleton.mp hops
      obtain rfl := List.mem_singleton.mp hop
      rfl)
    (hkeep := fun ops hops op hop => by
      obtain rfl := List.mem_singleton.mp hops
      obtain rfl := List.mem_singleton.mp hop
      intro w
      rw [StableHlo.reshape_writes, Finset.mem_singleton]
      exact StableHlo.devRef_ne_of_ne ((by decide : ∀ w, Pipeline.arrRef spec0 w ≠ main_v2) w))
    (hmain := hmain m) (hA := A_eq m) (hpf := V_pre m) (hin := phi_in m) (hout := phi_out m)

/-- A buffer that is neither a window's array nor written by the trailing reshape ends at its contents at the region's entry. -/
theorem tail_arg (b : Ref sig .tc) (hb : b ≠ main_v2) (hw : ∀ w, Pipeline.arrRef spec0 w ≠ b) (c : Dev nD) :
    Pipeline.afterTail pcfgs (fun _ => adm m) (dats m) 0 (V₀ m) [hostOps1] c b = V m c b := by
  unfold Pipeline.afterTail
  rw [StableHlo.after_of_forall_not_mem (b := Proc.devRef .tc b) _ _ (List.forall_iff_forall_mem.mp (by
    simp only [hostOps1, List.flatten_cons, List.flatten_nil, List.append_nil, List.cons_append,
      List.nil_append, List.Forall, StableHlo.reshape_writes, Finset.mem_singleton]
    repeat' apply And.intro
    all_goals exact StableHlo.devRef_ne_of_ne hb)),
    Pipeline.withArrays_of_ne _ c (V₀ m c) _ b hw]

/-- The arguments end unchanged. -/
theorem args_of (r : PUnit × MemSt nD τ sig (Elt F))
    (h : Pipeline.FramePost (Pipeline.pin pcfgs fun _ => adm m) (dats m) 0
      (Pipeline.afterTail pcfgs (fun _ => adm m) (dats m) 0 (V₀ m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 0).trans (((dats m 0 c).arrAt_in 0 rfl _).trans ((A_eq m c 0).trans (V_main_arg0 m c))),
   ((h c).2 main_arg1 rest_arg1).trans ((tail_arg m main_arg1 (by decide) (by decide) c).trans (V_main_arg1 m c)),
   ((h c).2 main_arg2 rest_arg2).trans ((tail_arg m main_arg2 (by decide) (by decide) c).trans (V_main_arg2 m c))⟩

/-- The frame: the program runs to the end, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => args_of m r h.1 c, h.2⟩) (run_main_quiescent m ρ)

end Cert.KernelIdeal.Hand

end
-- ==== Proof.MaxIdeal.lean ====
/-
  Facts about maxima of extended reals and about the masks both programs compute, free of either program.
-/
module

public import Idealize.ShloMosaic.Lib.Pointwise
public import Idealize.ShloMosaic.Lib.WordCmp

@[expose] public section

noncomputable section

namespace Cert.MaxIdeal

open Idealize.ShloMosaic
open Idealize.ShloMosaic.WordCmp

/-- The word both programs start a maximum from denotes minus infinity. -/
theorem negInf_eq : Ideal.ofBits FTy.f32 4286578688#32 = (⊥ : EReal) := by
  simp [Ideal.ofBits, Ideal.ieee]

/-- A maximum is at most `c` exactly where every operand is. -/
theorem fold_le {ι : Type} [Fintype ι] (f : ι → EReal) (c : EReal) :
    Finset.univ.fold max ⊥ f ≤ c ↔ ∀ x, f x ≤ c := by
  rw [Finset.fold_max_le]
  simp

/-- The largest of the numbers `f j` over the indices satisfying `P`, minus infinity where there is none. -/
def maxOver {ι : Type} [Fintype ι] (P : ι → Prop) [DecidablePred P] (f : ι → EReal) : EReal :=
  Finset.univ.fold max ⊥ fun j => if P j then f j else ⊥

/-- A maximum over the indices that satisfy P is at most c where each of its terms is. -/
theorem maxOver_le {ι : Type} [Fintype ι] (P : ι → Prop) [DecidablePred P] (f : ι → EReal) (c : EReal) :
    maxOver P f ≤ c ↔ ∀ j, P j → f j ≤ c := by
  unfold maxOver
  rw [fold_le]
  refine forall_congr' fun j => ?_
  by_cases h : P j
  · simp [h]
  · simp [h]

/-- A maximum over a nonempty set of indices, multiplied by a nonnegative number, is the maximum of the products. -/
theorem maxOver_mul {ι : Type} [Fintype ι] (P : ι → Prop) [DecidablePred P] (f : ι → EReal) (s : EReal) (hs : 0 ≤ s)
    (hne : ∃ j, P j) : maxOver P f * s = maxOver P fun j => f j * s := by
  obtain ⟨j, hj, hmax⟩ := Finset.exists_max_image (Finset.univ.filter P) f
    (by obtain ⟨j, hj⟩ := hne; exact ⟨j, by simpa using hj⟩)
  have hPj : P j := by simpa using hj
  have hle : ∀ k, P k → f k ≤ f j := fun k hk => hmax k (by simpa using hk)
  have e1 : maxOver P f = f j :=
    le_antisymm ((maxOver_le P f _).2 hle) ((maxOver_le P f _).1 le_rfl j hPj)
  have e2 : (maxOver P fun j => f j * s) = f j * s :=
    le_antisymm ((maxOver_le P _ _).2 fun k hk => mul_le_mul_of_nonneg_right (hle k hk) hs) ((maxOver_le P (fun j => f j * s) _).1 le_rfl j hPj)
  rw [e1, e2]

/-- The mask of both programs: a position is at least one and below the size. -/
theorem mask_eq (pos : ℕ) (hpos : pos < 2 ^ 31) (v : BitVec 32) :
    IntOp.andi (IntOp.cmpi .sge (BitVec.ofNat 32 pos) 1#32) (IntOp.cmpi .slt (BitVec.ofNat 32 pos) v)
      = BitVec.ofBool (decide (1 ≤ pos ∧ (pos : ℤ) < v.toInt)) := by
  have e : (BitVec.ofNat 32 pos).toInt = (pos : ℤ) := toInt_ofNat_of_lt hpos
  rw [cmpi_sge_eq, cmpi_slt_eq, andi_ofBool, e, Bool.decide_and]
  congr 3
  exact propext ⟨fun h => by have : (1 : ℤ) ≤ pos := h; omega, fun h => by show (1 : ℤ) ≤ pos; omega⟩

/-- The mask of a pair in the reference: the key position is below the query position and below the size. -/
theorem pair_eq (j i : ℕ) (hj : j < 2 ^ 31) (hi : i < 2 ^ 31) (v : BitVec 32) :
    IntOp.andi (IntOp.cmpi .slt (BitVec.ofNat 32 j) (BitVec.ofNat 32 i)) (IntOp.cmpi .slt (BitVec.ofNat 32 j) v)
      = BitVec.ofBool (decide (j < i ∧ (j : ℤ) < v.toInt)) := by
  have e : (BitVec.ofNat 32 j).toInt = (j : ℤ) := toInt_ofNat_of_lt hj
  rw [cmpi_slt_ofNat hj hi, cmpi_slt_eq, andi_ofBool, e, Bool.decide_and]

/-- A choice whose two branches agree. -/
theorem dite_const {α : Type} {p : Prop} [Decidable p] {f : p → α} {g : ¬p → α} {x : α} (hf : ∀ h, f h = x) (hg : ∀ h, g h = x) :
    dite p f g = x := by
  by_cases h : p
  · rw [dif_pos h]; exact hf h
  · rw [dif_neg h]; exact hg h

end Cert.MaxIdeal
-- ==== Proof.ScoreKernelIdeal.lean ====
/-
  What one grid point of the kernel leaves, read at each element in the extended reals: where the position is inside
  the cluster and not its first, the largest score of an earlier position, times the position's own scale.
-/
module

public import proofs.«01_k».proof.Proof.SpecKernelIdeal
public import proofs.«01_k».proof.Proof.MaxIdeal

@[expose] public section

set_option maxRecDepth 16384

noncomputable section

namespace Cert.KernelIdeal.Hand

open Idealize.ShloMosaic Idealize.ShloMosaic.TcCoe Idealize.SL.Sem
open Cert.KernelIdeal.Gen Cert.MaxIdeal
open Idealize.ShloMosaic.WordCmp

/-- The score of key position `j` for query position `i`: the dot product of their codes, times the key's scale. -/
def score (x3 : Vec Ideal S1x16384x512 .fp8e4m3) (x4 : Vec Ideal S1x128x128 .f32) (j i : ℕ) : EReal :=
  (∑ d : Fin 512, x3 (ix3 (0 : Fin 1) (⟨j % 16384, Nat.mod_lt _ (by decide)⟩ : Fin 16384) d) *
      x3 (ix3 (0 : Fin 1) (⟨i % 16384, Nat.mod_lt _ (by decide)⟩ : Fin 16384) d)) *
    x4 (ix3 (0 : Fin 1) (⟨j % 16384 / 128, by omega⟩ : Fin 128) (⟨j % 16384 % 128, Nat.mod_lt _ (by decide)⟩ : Fin 128))

/-- The maxima of one key block against a query block, the key block being the query block itself: only earlier rows
    count. -/
theorem pay7_at (a b : Vec Ideal S1x512x512 .fp8e4m3) (v : Vec Ideal S512x128 .f32) (w : Fin 512 → EReal)
    (hv : ∀ r l, v (ix2 r l) = w r) (r : Fin 8) (p : Fin 512) :
    k0_pay7 (F := Ideal) a b v (ix2 r p) = Finset.univ.fold max (⊥ : EReal) (fun x : Fin 64 =>
      if x.val * 8 + r.val < p.val then (∑ d, a (ix3 0 (⟨x.val * 8 + r.val, by omega⟩ : Fin 512) d) * b (ix3 0 p d)) * w ⟨x.val * 8 + r.val, by omega⟩ else ⊥) := by
  pointwise [k0_pay7]
  simp only [negInf_eq]
  congr 1
  funext x
  rw [cmpi_slt_ofNat (by have := x.isLt; have := r.isLt; omega) (by have := p.isLt; omega)]
  refine (select_decide _ _ _).trans ?_
  congr 2
  exact dite_const (fun _ => hv _ _) fun _ => dite_const (fun _ => hv _ _) fun _ => dite_const (fun _ => hv _ _) fun _ => hv _ _

/-- The running maxima after one more key block, every row of which counts. -/
theorem pay8_at (acc : FVec Ideal S8x512 .f32) (a b : Vec Ideal S1x512x512 .fp8e4m3) (v : Vec Ideal S512x128 .f32)  (w : Fin 512 → EReal)
    (hv : ∀ r l, v (ix2 r l) = w r) (r : Fin 8) (p : Fin 512) :
    k0_pay8 (F := Ideal) acc a b v (ix2 r p) = max (acc (ix2 r p)) (Finset.univ.fold max (⊥ : EReal) (fun x : Fin 64 =>
      (∑ d, a (ix3 0 (⟨x.val * 8 + r.val, by omega⟩ : Fin 512) d) * b (ix3 0 p d)) * w ⟨x.val * 8 + r.val, by omega⟩)) := by
  pointwise [k0_pay8]
  simp only [negInf_eq]
  congr 2
  funext x
  congr 1
  exact dite_const (fun _ => hv _ _) fun _ => dite_const (fun _ => hv _ _) fun _ => dite_const (fun _ => hv _ _) fun _ => hv _ _

/-- The maximum over the eight partial maxima. -/
theorem pay10_at (acc : FVec Ideal S8x512 .f32) (p : Fin 512) :
    k0_pay10 (F := Ideal) acc (ix2 0 p) = Finset.univ.fold max (⊥ : EReal) (fun x : Fin 8 => acc (ix2 x p)) := by
  pointwise [k0_pay10]
  simp only [negInf_eq]

/-- The running maxima of query block `q` after `n` key blocks, by their upper bounds. -/
theorem accN_le (x3 : Vec Ideal S1x16384x512 .fp8e4m3) (x4 : Vec Ideal S1x128x128 .f32) (q n : ℕ) (r : Fin 8) (p : Fin 512) (c : EReal) :
    accN x3 x4 q n (ix2 r p) ≤ c ↔
      (∀ a : Fin 64, a.val * 8 + r.val < p.val → score x3 x4 (512 * q + (a.val * 8 + r.val)) (512 * q + p.val) ≤ c) ∧
      ∀ k < n, ∀ a : Fin 64, score x3 x4 (512 * k + (a.val * 8 + r.val)) (512 * q + p.val) ≤ c := by
  induction n with
  | zero =>
    refine (iff_of_eq (congrArg (· ≤ c) (pay7_at _ _ _ (fun r => cblk x4 q (ix2 r 0)) (fun _ _ => rfl) r p))).trans ?_
    refine (maxOver_le (fun a : Fin 64 => a.val * 8 + r.val < p.val) _ c).trans ?_
    exact ⟨fun h => ⟨h, fun k hk => absurd hk (Nat.not_lt_zero k)⟩, fun h => h.1⟩
  | succ n ih =>
    refine (iff_of_eq (congrArg (· ≤ c) (pay8_at _ _ _ _ (fun r => cblk x4 n (ix2 r 0)) (fun _ _ => rfl) r p))).trans ?_
    rw [max_le_iff, fold_le, ih]
    constructor
    · rintro ⟨⟨h1, h2⟩, h3⟩
      refine ⟨h1, fun k hk a => ?_⟩
      rcases Nat.lt_succ_iff_lt_or_eq.1 hk with h | rfl
      · exact h2 k h a
      · exact h3 a
    · rintro ⟨h1, h2⟩
      exact ⟨⟨h1, fun k hk => h2 k (Nat.lt_succ_of_lt hk)⟩, fun a => h2 n (Nat.lt_succ_self n) a⟩

/-- The maximum of a query position is the largest score of an earlier position. -/
theorem best_at (x3 : Vec Ideal S1x16384x512 .fp8e4m3) (x4 : Vec Ideal S1x128x128 .f32) (q : ℕ) (hq : q < 32) (p : Fin 512) :
    best x3 x4 q (ix2 0 p) = maxOver (fun j : Fin 16384 => j.val < 512 * q + p.val) fun j => score x3 x4 j.val (512 * q + p.val) := by
  refine eq_of_forall_ge_iff fun c => ?_
  refine (iff_of_eq (congrArg (· ≤ c) (pay10_at _ p))).trans ?_
  rw [fold_le, maxOver_le]
  have hp := p.isLt
  constructor
  · intro h j hj
    have hr : j.val % 8 < 8 := Nat.mod_lt _ (by decide)
    have ha : j.val % 512 / 8 < 64 := by omega
    have e : ∀ k, k = j.val / 512 → 512 * k + (j.val % 512 / 8 * 8 + j.val % 8) = j.val := by intro k hk; omega
    obtain ⟨h1, h2⟩ := (accN_le x3 x4 q q ⟨j.val % 8, hr⟩ p c).1 (h _)
    by_cases hk : j.val / 512 = q
    · have := h1 ⟨j.val % 512 / 8, ha⟩ (by show j.val % 512 / 8 * 8 + j.val % 8 < p.val; omega)
      rwa [show 512 * q + (j.val % 512 / 8 * 8 + j.val % 8) = j.val from e q hk.symm] at this
    · have := h2 (j.val / 512) (by omega) ⟨j.val % 512 / 8, ha⟩
      rwa [show 512 * (j.val / 512) + (j.val % 512 / 8 * 8 + j.val % 8) = j.val from e _ rfl] at this
  · intro h r
    have hr := r.isLt
    refine (accN_le x3 x4 q q r p c).2 ⟨fun a hlt => ?_, fun k hk a => ?_⟩
    · have ha := a.isLt
      exact h ⟨512 * q + (a.val * 8 + r.val), by omega⟩ (by show 512 * q + (a.val * 8 + r.val) < 512 * q + p.val; omega)
    · have ha := a.isLt
      exact h ⟨512 * k + (a.val * 8 + r.val), by omega⟩ (by show 512 * k + (a.val * 8 + r.val) < 512 * q + p.val; omega)

/-- The position the kernel computes from its block, its group of 128 and its lane. -/
theorem pos_word (q : ℕ) (g l : ℕ) : IntOp.addi (Scalar.addi (base q) (BitVec.ofNat 32 (128 * g))) (BitVec.ofNat 32 l) = BitVec.ofNat 32 (512 * q + 128 * g + l) := by
  show BitVec.ofNat 32 q * BitVec.ofNat 32 512 + BitVec.ofNat 32 (128 * g) + BitVec.ofNat 32 l = _
  rw [← BitVec.ofNat_mul, ← BitVec.ofNat_add, ← BitVec.ofNat_add, Nat.mul_comm q 512]

/-- The masked product of one element of a row. -/
theorem row_val (q g l : ℕ) (hq : q < 32) (hg : g < 4) (hl : l < 128) (v1 : BitVec 32) (z : EReal) :
    Scalar.select
      (IntOp.andi (IntOp.cmpi .sge (IntOp.addi (Scalar.addi (base q) (BitVec.ofNat 32 (128 * g))) (BitVec.ofNat 32 l)) 1#32)
        (IntOp.cmpi .slt (IntOp.addi (Scalar.addi (base q) (BitVec.ofNat 32 (128 * g))) (BitVec.ofNat 32 l)) v1)) z 0
      = if 1 ≤ 512 * q + 128 * g + l ∧ ((512 * q + 128 * g + l : ℕ) : ℤ) < v1.toInt then z else 0 := by
  rw [pos_word, mask_eq _ (by omega)]
  exact select_decide _ _ _

/-- The first row of a live block's output: best times scale where the position counts, else zero. -/
theorem pay11_at (v1 : BitVec 32) (v3 : BitVec 32) (acc : FVec Ideal S1x512 .f32) (s : Vec Ideal S1x1x128 .f32) (l : Fin 128) :
    k0_pay11 (F := Ideal) v1 v3 acc s (ix3 0 0 l) = Scalar.select
      (IntOp.andi (IntOp.cmpi .sge (IntOp.addi (Scalar.addi v3 (BitVec.ofNat 32 (128 * 0))) (BitVec.ofNat 32 l.val)) 1#32)
        (IntOp.cmpi .slt (IntOp.addi (Scalar.addi v3 (BitVec.ofNat 32 (128 * 0))) (BitVec.ofNat 32 l.val)) v1))
      (acc (ix2 0 (⟨128 * 0 + l.val, by omega⟩ : Fin 512)) * s (ix3 0 0 l)) (0 : EReal) := by
  pointwise [k0_pay11]

/-- The second row of a live block's output, likewise. -/
theorem pay13_at (v1 : BitVec 32) (v3 : BitVec 32) (acc : FVec Ideal S1x512 .f32) (s : Vec Ideal S1x1x128 .f32) (l : Fin 128) :
    k0_pay13 (F := Ideal) (k0_pay12 v1 v3 acc s) (ix3 0 0 l) = Scalar.select
      (IntOp.andi (IntOp.cmpi .sge (IntOp.addi (Scalar.addi v3 (BitVec.ofNat 32 (128 * 1))) (BitVec.ofNat 32 l.val)) 1#32)
        (IntOp.cmpi .slt (IntOp.addi (Scalar.addi v3 (BitVec.ofNat 32 (128 * 1))) (BitVec.ofNat 32 l.val)) v1))
      (acc (ix2 0 (⟨128 * 1 + l.val, by omega⟩ : Fin 512)) * s (ix3 0 0 l)) (0 : EReal) := by
  pointwise [k0_pay12, k0_pay13]

/-- The third row of a live block's output, likewise. -/
theorem pay14_at (v1 : BitVec 32) (v3 : BitVec 32) (acc : FVec Ideal S1x512 .f32) (s : Vec Ideal S1x1x128 .f32) (l : Fin 128) :
    k0_pay14 (F := Ideal) v1 v3 acc s (ix3 0 0 l) = Scalar.select
      (IntOp.andi (IntOp.cmpi .sge (IntOp.addi (Scalar.addi v3 (BitVec.ofNat 32 (128 * 2))) (BitVec.ofNat 32 l.val)) 1#32)
        (IntOp.cmpi .slt (IntOp.addi (Scalar.addi v3 (BitVec.ofNat 32 (128 * 2))) (BitVec.ofNat 32 l.val)) v1))
      (acc (ix2 0 (⟨128 * 2 + l.val, by omega⟩ : Fin 512)) * s (ix3 0 0 l)) (0 : EReal) := by
  pointwise [k0_pay14]

/-- The fourth row of a live block's output, likewise. -/
theorem pay1_at (v1 : BitVec 32) (v3 : BitVec 32) (acc : FVec Ideal S1x512 .f32) (s : Vec Ideal S1x1x128 .f32) (l : Fin 128) :
    k0_pay1 (F := Ideal) (k0_pay15 acc s) (k0_pay16 (F := Ideal) v1 v3) k0_pay17 (ix3 0 0 l) = Scalar.select
      (IntOp.andi (IntOp.cmpi .sge (IntOp.addi (Scalar.addi v3 (BitVec.ofNat 32 (128 * 3))) (BitVec.ofNat 32 l.val)) 1#32)
        (IntOp.cmpi .slt (IntOp.addi (Scalar.addi v3 (BitVec.ofNat 32 (128 * 3))) (BitVec.ofNat 32 l.val)) v1))
      (acc (ix2 0 (⟨128 * 3 + l.val, by omega⟩ : Fin 512)) * s (ix3 0 0 l)) (0 : EReal) := by
  pointwise [k0_pay1, k0_pay15, k0_pay16, k0_pay17]

/-- A dead block is all zero. -/
theorem pay2_at (g : Fin 4) (l : Fin 128) : k0_pay2 (F := Ideal) (ix3 0 g l) = (0 : EReal) := by
  pointwise [k0_pay2]

/-- The value the kernel leaves at position `pos` of a cluster of size `v1`. -/
def kval (v1 : BitVec 32) (x3 : Vec Ideal S1x16384x512 .fp8e4m3) (x4 : Vec Ideal S1x128x128 .f32) (pos : ℕ) : EReal :=
  if 1 ≤ pos ∧ (pos : ℤ) < v1.toInt then
    (maxOver (fun j : Fin 16384 => j.val < pos) fun j => score x3 x4 j.val pos)
      * x4 (ix3 (0 : Fin 1) (⟨pos / 128 % 128, Nat.mod_lt _ (by decide)⟩ : Fin 128) (⟨pos % 128, Nat.mod_lt _ (by decide)⟩ : Fin 128))
  else 0

/-- A row of a live block holds the values that the kernel computes for its positions. -/
theorem row_kval (q : ℕ) (hq : q < 32) (g : ℕ) (hg : g < 4) (l : Fin 128) (v1 : BitVec 32) (x3 : Vec Ideal S1x16384x512 .fp8e4m3) (x4 : Vec Ideal S1x128x128 .f32) :
    Scalar.select
      (IntOp.andi (IntOp.cmpi .sge (IntOp.addi (Scalar.addi (base q) (BitVec.ofNat 32 (128 * g))) (BitVec.ofNat 32 l.val)) 1#32)
        (IntOp.cmpi .slt (IntOp.addi (Scalar.addi (base q) (BitVec.ofNat 32 (128 * g))) (BitVec.ofNat 32 l.val)) v1))
      (best x3 x4 q (ix2 0 (⟨128 * g + l.val, by omega⟩ : Fin 512)) * srow x4 (4 * q + g) (ix3 0 0 l)) (0 : EReal)
      = kval v1 x3 x4 (512 * q + 128 * g + l.val) := by
  rw [row_val q g l.val hq hg l.isLt]
  unfold kval
  have hl := l.isLt
  refine if_congr Iff.rfl ?_ rfl
  refine congrArg₂ (· * ·) ((best_at x3 x4 q hq _).trans ?_) ?_
  · show (maxOver (fun j : Fin 16384 => j.val < 512 * q + (128 * g + l.val)) fun j => score x3 x4 j.val (512 * q + (128 * g + l.val))) = _
    rw [← Nat.add_assoc]
  · unfold srow
    refine congrArg x4 (funext fun a => Fin.ext ?_)
    match a with
    | ⟨0, _⟩ => rfl
    | ⟨1, _⟩ => show (4 * q + g) % 128 = (512 * q + 128 * g + l.val) / 128 % 128; omega
    | ⟨2, _⟩ => show l.val = (512 * q + 128 * g + l.val) % 128; omega

/-- Each element of the block a grid point leaves. -/
theorem outBlk_at (i : grid0.Coords) (v1 : BitVec 32) (x3 : Vec Ideal S1x16384x512 .fp8e4m3) (x4 : Vec Ideal S1x128x128 .f32) (g : Fin 4) (l : Fin 128) :
    outBlk (F := Ideal) i v1 x3 x4 (ix3 0 g l) = kval v1 x3 x4 (512 * (i 1).val + 128 * g.val + l.val) := by
  unfold outBlk
  have hq := lt32 i
  by_cases h : k0_cond1 i v1 = 1#1
  · rw [if_pos h]
    unfold liveOut
    fin_cases g
    · exact (pay11_at _ _ _ _ l).trans (row_kval _ hq 0 (by decide) l v1 x3 x4)
    · exact (pay13_at _ _ _ _ l).trans (row_kval _ hq 1 (by decide) l v1 x3 x4)
    · exact (pay14_at _ _ _ _ l).trans (row_kval _ hq 2 (by decide) l v1 x3 x4)
    · exact (pay1_at _ _ _ _ l).trans (row_kval _ hq 3 (by decide) l v1 x3 x4)
  · rw [if_neg h]
    rw [cond1_iff, not_lt] at h
    refine (pay2_at g l).trans ?_
    unfold kval
    rw [if_neg]
    rintro ⟨_, h2⟩
    omega

end Cert.KernelIdeal.Hand
-- ==== Proof.ValueKernelIdeal.lean ====
/-
  The kernel's result in the extended reals, element by element, as a function of the arguments.
-/
module

public import proofs.«01_k».proof.Proof.RunKernelIdeal
public import proofs.«01_k».proof.Proof.ScoreKernelIdeal
public import Idealize.ShloMosaic.Lib.Pipeline.ValueKit

@[expose] public section

set_option maxRecDepth 16384

noncomputable section

namespace Cert.KernelIdeal.Hand

open Idealize.ShloMosaic Idealize.ShloMosaic.TcCoe Idealize.SL.Sem
open Idealize.ShloMosaic.Pipeline (Dat Cfg Window)
open Cert.KernelIdeal.Gen Cert.MaxIdeal

attribute [local irreducible] outBlk col kval

variable (m : (ℓ : Loc nD τ sig) → Buf (Elt Ideal) ℓ)

/-- Two functions on a block of one leading row are equal where they agree at every other coordinate. -/
theorem ext3 {α : Type} {n k : ℕ} (f g : (⟨3, ![1, n, k]⟩ : Shape).Idx → α) (h : ∀ (r : Fin n) (d : Fin k), f (ix3 0 r d) = g (ix3 0 r d)) : f = g := by
  funext y
  have e : y = ix3 (0 : Fin 1) (y 1) (y 2) := by
    funext a
    match a with
    | ⟨0, _⟩ => exact Subsingleton.elim (α := Fin 1) _ _
    | ⟨1, _⟩ => rfl
    | ⟨2, _⟩ => rfl
  rw [e]; exact h _ _

/-- The codes of cluster `b`. -/
def clusterCodes (x : Vec Ideal S6x16384x512 .fp8e4m3) (b : Fin 6) : Vec Ideal S1x16384x512 .fp8e4m3 := fun y => x (ix3 b (y 1) (y 2))
/-- The scales of cluster `b`, 128 to a row. -/
def clusterScales (s : Vec Ideal S6x16384 .f32) (b : Fin 6) : Vec Ideal S1x128x128 .f32 :=
  fun y => s (ix2 b (⟨128 * (y 1).val + (y 2).val, by
    have h1 : (y 1).val < 128 := (y 1).isLt
    have h2 : (y 2).val < 128 := (y 2).isLt
    omega⟩ : Fin 16384))

/-- The kernel's result at position `i` of cluster `b`. -/
def result (x : Vec Ideal S6x16384x512 .fp8e4m3) (s : Vec Ideal S6x16384 .f32) (z : Vec Ideal S6 .i32) (b : Fin 6) (i : ℕ) : EReal :=
  kval (z (ix1 b)) (clusterCodes x b) (clusterScales s b) i

/-- The scales as the region finds them: the host's reshape of the argument. -/
theorem V_main_v0 (c : Dev nD) : V m c main_v0 = shapeCast S6x128x128 (m ((c : Thread nD τ).loc main_arg1) : Vec Ideal S6x16384 .f32) shapeCasts_S6x16384_S6x128x128 := by
  unfold V V₀
  simp only [hostOps0, List.flatten_cons, List.flatten_nil, List.append_nil]
  after_results
  rfl

/-- The host's first reshape, element by element. -/
theorem shape_at (s : Vec Ideal S6x16384 .f32) (b : Fin 6) (r d : Fin 128) :
    shapeCast S6x128x128 s shapeCasts_S6x16384_S6x128x128 (ix3 b r d) = s (ix2 b (⟨128 * r.val + d.val, by omega⟩ : Fin 16384)) := by
  pointwise
  congr 3
  exact congrArg (· + d.val) (Nat.mul_comm _ _)

/-- The host's last reshape, element by element. -/
theorem back_at (f : Vec Ideal S192x4x128 .f32) (b : Fin 6) (i : Fin 16384) :
    shapeCast S6x16384 f shapeCasts_S192x4x128_S6x16384 (ix2 b i)
      = f (ix3 (⟨32 * b.val + i.val / 512, by omega⟩ : Fin 192) (⟨i.val / 128 % 4, Nat.mod_lt _ (by decide)⟩ : Fin 4) (⟨i.val % 128, Nat.mod_lt _ (by decide)⟩ : Fin 128)) := by
  pointwise
  congr 3
  exact congrArg (· + i.val / 512) (Nat.mul_comm _ _)

/-- The cluster of a grid point. -/
def cl (t : Fin grid0.N) : Fin 6 := ⟨(grid0.coords t 0).val, c0_lt _⟩

/-- The codes a grid point finds are its cluster's. -/
theorem codes_eq (c : Dev nD) (t : Fin (cfgM m).N) : iblk m c 0 t = clusterCodes (m ((c : Thread nD τ).loc main_arg0)) (cl t) := by
  refine ext3 (n := 16384) (k := 512) (iblk m c 0 t) _ fun r d => ?_
  rw [iblk0_at, V_main_arg0]
  rfl

/-- The scales a grid point finds are its cluster's. -/
theorem scales_eq (c : Dev nD) (t : Fin (cfgM m).N) : iblk m c 1 t = clusterScales (m ((c : Thread nD τ).loc main_arg1)) (cl t) := by
  refine ext3 (n := 128) (k := 128) (iblk m c 1 t) _ fun r d => ?_
  rw [iblk1_at, V_main_v0]
  exact shape_at _ _ _ _

/-- The output block is written back at every point. -/
theorem flush2 (t : Fin (cfgM m).N) : ((cfgM m).win 2).flush t = true := by
  unfold Window.flush
  rw [Bool.and_eq_true]
  refine ⟨rfl, ?_⟩
  rw [Bool.or_eq_true]
  by_cases h : t.val + 1 = (cfgM m).N
  · exact Or.inl (decide_eq_true h)
  · refine Or.inr (decide_eq_true ⟨lt_of_le_of_ne t.isLt h, ?_⟩)
    rw [index2, index2]
    intro e
    have z0 : 0 < 3 := by decide
    have e0 : t.val + 1 = t.val := congrFun e (⟨0, z0⟩ : Fin 3)
    omega

/-- The blocks of the output window cover its array. -/
theorem covers : ((cfgM m).win 2).Covers := by
  refine ⟨fun a => ?_, fun β => ?_⟩
  · match a with
    | ⟨0, _⟩ => exact (by decide : 0 < 1)
    | ⟨1, _⟩ => exact (by decide : 0 < 4)
    | ⟨2, _⟩ => exact (by decide : 0 < 128)
  · have z0 : 0 < 3 := by decide
    have z1 : 1 < 3 := by decide
    have z2 : 2 < 3 := by decide
    have h0 : (β (⟨0, z0⟩ : Fin 3)).val < 192 := lt_of_lt_of_eq (β (⟨0, z0⟩ : Fin 3)).isLt (show (192 + 1 - 1) / 1 = 192 by decide)
    have h1 : (β (⟨1, z1⟩ : Fin 3)).val < 1 := lt_of_lt_of_eq (β (⟨1, z1⟩ : Fin 3)).isLt (show (4 + 4 - 1) / 4 = 1 by decide)
    have h2 : (β (⟨2, z2⟩ : Fin 3)).val < 1 := lt_of_lt_of_eq (β (⟨2, z2⟩ : Fin 3)).isLt (show (128 + 128 - 1) / 128 = 1 by decide)
    refine ⟨⟨(β (⟨0, z0⟩ : Fin 3)).val, h0.trans_eq N_0.symm⟩, flush2 m _, fun a => ⟨?_, Or.inl rfl⟩⟩
    rw [index2]
    match a with
    | ⟨0, _⟩ => rfl
    | ⟨1, _⟩ => exact (Nat.lt_one_iff.1 h1).symm
    | ⟨2, _⟩ => exact (Nat.lt_one_iff.1 h2).symm

/-- The size a grid point reads is its cluster's. -/
theorem wd_eq (c : Dev nD) (t : Fin (cfgM m).N) : wd m c (grid0.coords t) = (m ((c : Thread nD τ).loc main_arg2) : Vec Ideal S6 .i32) (ix1 (cl t)) := by
  obtain rfl : c = 0 := Subsingleton.elim _ _
  have e : tbl m 0 = m (((0 : Dev nD) : Thread nD τ).loc main_arg2) := V_main_arg2 m 0
  show (tbl m 0 : Vec Ideal S6 .i32) _ = _
  rw [e]
  refine congrArg (m (((0 : Dev nD) : Thread nD τ).loc main_arg2) : Vec Ideal S6 .i32) (funext fun a => Fin.ext ?_)
  have hq := c0_lt (grid0.coords t)
  match a with
  | ⟨0, _⟩ =>
    show k0_off1 (grid0.coords t) 0 + 1 * (Shape.Idx.first (s := S1) _ 0).val = (grid0.coords t 0).val
    have e1 : k0_off1 (grid0.coords t) 0 = (grid0.coords t 0).val := by
      show (BitVec.ofNat 32 (grid0.coords t 0).val).toNat = _
      rw [BitVec.toNat_ofNat, Nat.mod_eq_of_lt (by omega)]
    rw [e1]
    rfl

/-- The array of the output window: every row of its block is its grid point's. -/
def rows (x : Vec Ideal S6x16384x512 .fp8e4m3) (s : Vec Ideal S6x16384 .f32) (z : Vec Ideal S6 .i32) : Vec Ideal S192x4x128 .f32 :=
  fun y => result x s z (⟨(y 0).val / 32, by have h : (y 0).val < 192 := (y 0).isLt; omega⟩ : Fin 6)
    (512 * ((y 0).val % 32) + 128 * (y 1).val + (y 2).val)

/-- Where a block's element lies in the array. -/
theorem emb_at (t : Fin (cfgM m).N) (g : Fin 4) (l : Fin 128) :
    ((((cfgM m).win 2).blk t).view.emb (ix3 (0 : Fin 1) g l) : S192x4x128.Idx) = ix3 (⟨t.val, t.isLt.trans_eq N_0⟩ : Fin 192) g l := by
  funext a
  apply Fin.ext
  blk_simp
  rw [index2]
  match a with
  | ⟨0, _⟩ => show t.val * 1 + 0 = t.val; omega
  | ⟨1, _⟩ => show 0 * 4 + g.val = g.val; omega
  | ⟨2, _⟩ => show 0 * 128 + l.val = l.val; omega

/-- The output array after the run. -/
theorem arr_eq (c : Dev nD) : (dats m 0 c).arrAt 2 (cfgM m).N
    = rows (m ((c : Thread nD τ).loc main_arg0)) (m ((c : Thread nD τ).loc main_arg1)) (m ((c : Thread nD τ).loc main_arg2)) := by
  refine (dats m 0 c).arrAt_eq_of_covers 2 _ (covers m) fun t hf y => ?_
  blk_simp
  rw [after_2, codes_eq, scales_eq, wd_eq]
  refine congrFun (ext3 (n := 4) (k := 128) (outBlk (F := Ideal) (grid0.coords t) _ _ _) (fun y => rows _ _ _ ((((cfgM m).win 2).blk t).view.emb y)) fun g l => ?_) y
  rw [emb_at, outBlk_at]
  have hc := coords_eq t
  have key : ∀ (b b' : Fin 6) (q q' : ℕ) (x : Vec Ideal S6x16384x512 .fp8e4m3) (s : Vec Ideal S6x16384 .f32) (z : Vec Ideal S6 .i32), b = b' → q = q' →
      kval (z (ix1 b)) (clusterCodes x b) (clusterScales s b) (512 * q + 128 * g.val + l.val) = result x s z b' (512 * q' + 128 * g.val + l.val) := by
    rintro b _ q _ x s z rfl rfl; rfl
  exact key _ _ _ _ _ _ _ (Fin.ext hc.1) hc.2

/-- The result is the host's reshape of that array. -/
theorem v2_eq (c : Dev nD) : Pipeline.afterTail pcfgs (fun _ => adm m) (dats m) 0 (V₀ m) [hostOps1] c main_v2
    = shapeCast S6x16384 ((dats m 0 c).arrAt 2 (cfgM m).N : Vec Ideal S192x4x128 .f32) shapeCasts_S192x4x128_S6x16384 := by
  unfold Pipeline.afterTail
  simp only [hostOps1, List.flatten_cons, List.flatten_nil, List.append_nil]
  after_results
  exact congrArg (fun f : Vec Ideal S192x4x128 .f32 => shapeCast S6x16384 f shapeCasts_S192x4x128_S6x16384)
    (Pipeline.withArrays_arr spec0 (launch0 (F := Ideal)).win.arr_inj c (V₀ m c) (fun w => (dats m 0 c).arrAt w (cfgM m).N) 2)

/-- The reshaped result is none of the arrays behind the windows. -/
theorem rest_v2 : main_v2 ∈ Pipeline.restRefs sig spec0 := by decide

/-- The kernel runs to the end, its result the reshape of those rows and its arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v2)
        = shapeCast S6x16384 (rows (m ((c : Thread nD τ).loc main_arg0)) (m ((c : Thread nD τ).loc main_arg1)) (m ((c : Thread nD τ).loc main_arg2))) shapeCasts_S192x4x128_S6x16384
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).2 main_v2 rest_v2).trans ((v2_eq m c).trans (congrArg (fun f : Vec Ideal S192x4x128 .f32 => shapeCast S6x16384 f shapeCasts_S192x4x128_S6x16384) (arr_eq m c))), args_of m r h.1 c⟩)
    (run_main_quiescent m ρ)

/-- One element of that result. -/
theorem result_at (x : Vec Ideal S6x16384x512 .fp8e4m3) (s : Vec Ideal S6x16384 .f32) (z : Vec Ideal S6 .i32) (b : Fin 6) (i : Fin 16384) :
    shapeCast S6x16384 (rows x s z) shapeCasts_S192x4x128_S6x16384 (ix2 b i) = result x s z b i.val := by
  refine (back_at _ b i).trans ?_
  have hb := b.isLt
  have hi := i.isLt
  unfold rows
  refine congrArg₂ (result x s z) (Fin.ext ?_) ?_
  · show (32 * b.val + i.val / 512) / 32 = b.val; omega
  · show 512 * ((32 * b.val + i.val / 512) % 32) + 128 * (i.val / 128 % 4) + i.val % 128 = i.val; omega

end Cert.KernelIdeal.Hand

end
-- ==== Proof.ValueReferenceIdeal.lean ====
/-
  The reference's result in the extended reals, element by element, and its run.
-/
module

public import proofs.«01_k».proof.Proof.Gen.ReferenceIdeal.Frame
public import proofs.«01_k».proof.Proof.MaxIdeal
public import Idealize.ShloMosaic.Lib.Pipeline.ValueKit

@[expose] public section

set_option maxRecDepth 16384

noncomputable section

namespace Cert.ReferenceIdeal.Hand

open Idealize.ShloMosaic Idealize.ShloMosaic.TcCoe Idealize.SL.Sem
open Cert.ReferenceIdeal.Gen Cert.MaxIdeal
open Idealize.ShloMosaic.WordCmp

/-- The reference at position `i` of cluster `b`: where the position is inside the cluster and not its first, the largest
    scaled dot product with an earlier position of the cluster; zero elsewhere. -/
theorem pay1_at (x : Vec Ideal S6x16384x512 .fp8e4m3) (s : Vec Ideal S6x16384 .f32) (z : Vec Ideal S6 .i32) (b : Fin 6) (i : Fin 16384) :
    k0_pay1 (F := Ideal) x s z (ix2 b i) = if 1 ≤ i.val ∧ (i.val : ℤ) < (z (ix1 b) : BitVec 32).toInt then
      maxOver (fun j : Fin 16384 => j.val < i.val ∧ (j.val : ℤ) < (z (ix1 b) : BitVec 32).toInt)
        (fun j => (∑ d : Fin 512, x (ix3 b i d) * x (ix3 b j d)) * s (ix2 b i) * s (ix2 b j))
      else (0 : EReal) := by
  pointwise [k0_pay1]
  have hi := i.isLt
  rw [mask_eq _ (by omega)]
  refine (select_decide _ _ _).trans (if_congr Iff.rfl ?_ rfl)
  simp only [negInf_eq]
  unfold maxOver
  congr 1
  funext j
  have hj := j.isLt
  rw [pair_eq _ _ (by omega) (by omega)]
  exact select_decide _ _ _

variable (m : (ℓ : Loc nD τ sig) → Buf (Elt Ideal) ℓ) (ρ : Dev nD → PrngReg)

/-- Each window of the reference is the whole array. -/
theorem idx : ∀ t : Fin cfg0.N, win0_0.index t = ![0, 0, 0] ∧ win0_1.index t = ![0, 0] ∧ win0_2.index t = ![0] ∧ win0_3.index t = ![0, 0] :=
  (by decide +kernel : ∀ t : Fin grid0.N, _)

/-- The reference sees all of the codes. -/
theorem iblk0 (c : Dev nD) (t) : iblk m c 0 t = m ((c.tc : Thread nD τ).loc main_arg0) := by blk_ext! [iblk, V, idx t]
/-- The reference sees all of the scales. -/
theorem iblk1 (c : Dev nD) (t) : iblk m c 1 t = m ((c.tc : Thread nD τ).loc main_arg1) := by blk_ext! [iblk, V, idx t]
/-- The reference sees all of the sizes. -/
theorem iblk2 (c : Dev nD) (t) : iblk m c 2 t = m ((c.tc : Thread nD τ).loc main_arg2) := by blk_ext! [iblk, V, idx t]

/-- The result's array after the run is the reference's arithmetic on the arguments. -/
theorem arr_eq (c : Dev nD) : (dats m 0 c).arrAt 3 cfg0.N
    = k0_pay1 (F := Ideal) (m ((c.tc : Thread nD τ).loc main_arg0)) (m ((c.tc : Thread nD τ).loc main_arg1)) (m ((c.tc : Thread nD τ).loc main_arg2)) := by
  refine (dats m 0 c).arrAt_eq_of_after_last 3 t0_0 (by decide +kernel) _ fun j => ?_
  blk_simp
  rw [after0_3]
  frame_out
  rw [iblk0, iblk1, iblk2]

/-- The reference runs to the end with that result, its arguments unchanged. -/
theorem run_value : θ_run defs (onTc (τ := τ) (main (F := Ideal))) ⟨m, fun _ => 0, ρ⟩ (fun r => ∀ c : Dev nD,
      r.2.mem ((c.tc : Thread nD τ).loc main_v0)
        = k0_pay1 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).trans (arr_eq m c), h.2 c⟩)
    (θ_run_and ((θ_run defs _ _).mono (fun r h c => (h c).1 3) (run_main m ρ)) (unchanged m ρ))

end Cert.ReferenceIdeal.Hand

end
-- ==== Proof.Algebraic.lean ====
/-
  The kernel's result and the reference's are the same extended reals where no scale is negative.
-/
module

public import proofs.«01_k».proof.Defs
public import proofs.«01_k».proof.Proof.Gen.Pre_scales_nonneg
public import proofs.«01_k».proof.Proof.ValueKernelIdeal
public import proofs.«01_k».proof.Proof.ValueReferenceIdeal
public import Idealize.ShloMosaic.Lib.ReduceAll

@[expose] public section

set_option maxRecDepth 16384

noncomputable section

namespace Cert.Algebraic

open Idealize.ShloMosaic Idealize.ShloMosaic.TcCoe Idealize.SL.Sem
open Cert.MaxIdeal Idealize.ShloMosaic.WordCmp

abbrev S6x16384x512 : Shape := ⟨3, ![6, 16384, 512]⟩
abbrev S6x16384 : Shape := ⟨2, ![6, 16384]⟩
abbrev S6 : Shape := ⟨1, ![6]⟩

/-- The precondition says that every scale is at least zero. -/
theorem scales_nonneg (x : Vec Ideal S6x16384x512 .fp8e4m3) (s : Vec Ideal S6x16384 .f32) (z : Vec Ideal S6 .i32)
    (h : @Cert.Pre_scales_nonneg.fn Cert.Pre_scales_nonneg.Gen.facts Ideal _ x s z = fun _ => 1#1) (b : Fin 6) (i : Fin 16384) : (0 : EReal) ≤ s (ix2 b i) := by
  dsimp only [Cert.Pre_scales_nonneg.fn] at h
  have e := Host.reduce_andi_all _ _ _ _ (fun a => a.elim0) (congrFun h _) (ix2 b i)
  pointwise at e
  exact (ofBool_decide_eq_one_iff _).1 e

/-- A kernel score is the dot product of the two positions' codes times the key's scale. -/
theorem score_eq (x : Vec Ideal S6x16384x512 .fp8e4m3) (s : Vec Ideal S6x16384 .f32) (b : Fin 6) (i j : Fin 16384) :
    Cert.KernelIdeal.Hand.score (Cert.KernelIdeal.Hand.clusterCodes x b) (Cert.KernelIdeal.Hand.clusterScales s b) j.val i.val
      = (∑ d : Fin 512, x (ix3 b i d) * x (ix3 b j d)) * s (ix2 b j) := by
  have hi : (⟨i.val % 16384, Nat.mod_lt _ (by decide)⟩ : Fin 16384) = i := Fin.ext (Nat.mod_eq_of_lt i.isLt)
  have hj : (⟨j.val % 16384, Nat.mod_lt _ (by decide)⟩ : Fin 16384) = j := Fin.ext (Nat.mod_eq_of_lt j.isLt)
  have hl := j.isLt
  refine congrArg₂ (· * ·) (Finset.sum_congr rfl fun d _ => ?_) ?_
  · show x (ix3 b _ d) * x (ix3 b _ d) = _
    rw [hi, hj]
    exact mul_comm (G := EReal) (x (ix3 b j d)) (x (ix3 b i d))
  · show s (ix2 b _) = s (ix2 b j)
    exact congrArg (fun k => s (ix2 b k)) (Fin.ext (show 128 * (j.val % 16384 / 128) + j.val % 16384 % 128 = j.val by omega))

/-- The two results agree at every element. -/
theorem value_eq (x : Vec Ideal S6x16384x512 .fp8e4m3) (s : Vec Ideal S6x16384 .f32) (z : Vec Ideal S6 .i32)
    (hs : ∀ b i, (0 : EReal) ≤ s (ix2 b i)) (b : Fin 6) (i : Fin 16384) :
    Cert.KernelIdeal.Hand.result x s z b i.val = Cert.ReferenceIdeal.Gen.k0_pay1 (F := Ideal) x s z (ix2 b i) := by
  refine Eq.trans ?_ (Cert.ReferenceIdeal.Hand.pay1_at x s z b i).symm
  unfold Cert.KernelIdeal.Hand.result Cert.KernelIdeal.Hand.kval
  by_cases h : 1 ≤ i.val ∧ (i.val : ℤ) < (z (ix1 b) : BitVec 32).toInt
  · rw [if_pos h, if_pos h]
    have hl := i.isLt
    have e : Cert.KernelIdeal.Hand.clusterScales s b (ix3 (0 : Fin 1) (⟨i.val / 128 % 128, Nat.mod_lt _ (by decide)⟩ : Fin 128) (⟨i.val % 128, Nat.mod_lt _ (by decide)⟩ : Fin 128)) = s (ix2 b i) :=
      congrArg (fun k => s (ix2 b k)) (Fin.ext (show 128 * (i.val / 128 % 128) + i.val % 128 = i.val by omega))
    refine (congrArg _ e).trans ((maxOver_mul _ _ _ (hs b i) ⟨(⟨0, by decide⟩ : Fin 16384), h.1⟩).trans ?_)
    refine eq_of_forall_ge_iff fun c => ?_
    rw [maxOver_le, maxOver_le]
    have hc : ∀ j : Fin 16384, Cert.KernelIdeal.Hand.score (Cert.KernelIdeal.Hand.clusterCodes x b) (Cert.KernelIdeal.Hand.clusterScales s b) j.val i.val * s (ix2 b i)
        = (∑ d : Fin 512, x (ix3 b i d) * x (ix3 b j d)) * s (ix2 b i) * s (ix2 b j) := fun j => by
      rw [score_eq]; exact mul_right_comm (G := EReal) _ _ _
    exact ⟨fun hk j hj => le_of_eq_of_le (hc j).symm (hk j hj.1), fun hk j hj => le_of_eq_of_le (hc j) (hk j ⟨hj, by omega⟩)⟩
  · rw [if_neg h, if_neg h]

/-- Two arrays of the result's shape are equal where they agree at every element. -/
theorem ext2 {α : Type} (f g : S6x16384.Idx → α) (h : ∀ (b : Fin 6) (i : Fin 16384), f (ix2 b i) = g (ix2 b i)) : f = g := by
  funext y
  have e : y = ix2 (y 0) (y 1) := by
    funext a
    match a with
    | ⟨0, _⟩ => rfl
    | ⟨1, _⟩ => rfl
  rw [e]; exact h _ _

/-- The algebraic claim: the kernel and the reference end with the same result. -/
theorem algebraic : @Cert.algebraic_KernelIdeal_ReferenceIdeal_pre_scales_nonneg Cert.KernelIdeal.Gen.facts Cert.ReferenceIdeal.Gen.facts Cert.Pre_scales_nonneg.Gen.facts := by
  intro m g m' g' hpre hagree
  refine ⟨_, Cert.KernelIdeal.Hand.run_value m g, ?_⟩
  refine (θ_run _ _ _).mono (fun r h c => ⟨(h c).1.trans ?_, (h c).2⟩) (Cert.ReferenceIdeal.Hand.run_value m' g')
  obtain ⟨e0, e1, e2⟩ := hagree c
  rw [e0, e1, e2]
  refine (ext2 _ _ fun b i => ?_).symm
  refine (Cert.KernelIdeal.Hand.result_at _ _ _ b i).trans ?_
  exact value_eq _ _ _ (scales_nonneg _ _ _ (hpre c)) b i

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_scales_nonneg
public import proofs.«01_k».proof.Proof.RunKernel
public import proofs.«01_k».proof.Proof.RunKernelIdeal
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything the certificate claims: both kernels' frames, the reference's frame, and that the idealized kernel and the
    reference end with the same result where no scale is negative. -/
theorem claim : Cert.Claim := ⟨Cert.Kernel.Gen.facts, Cert.KernelIdeal.Gen.facts, Cert.ReferenceIdeal.Gen.facts, Cert.Pre_scales_nonneg.Gen.facts,
  fun m g _ => Cert.Kernel.Hand.frame m g,
  fun m g _ => Cert.KernelIdeal.Hand.frame m g,
  fun m g _ => Cert.KernelIdeal.Hand.frame m g,
  fun m g _ => Cert.ReferenceIdeal.Gen.frame m g,
  fun m g _ => Cert.ReferenceIdeal.Gen.frame m g,
  trivial,
  Cert.Algebraic.algebraic⟩

end Cert.Proof

end
